-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantiseIdeal (m : (ℓ : Loc Cert.QuantiseIdeal.nD Cert.QuantiseIdeal.τ Cert.QuantiseIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quant_QuantIdeal : Prop :=
  IdealRules.named_const.Statement Cert.QuantIdeal.κ "inv_d" .f32 0x394CCCCD#32 ((1 / 5120 : ℝ) : EReal)
  ∧ IdealRules.named_const.Statement Cert.QuantIdeal.κ "inv_ln2" .f32 0x3FB8AA3B#32 (((Real.log 2)⁻¹ : ℝ) : EReal)

def algebraic_QuantIdeal_QuantiseIdeal [hQuantIdeal : Cert.QuantIdeal.Facts] [hQuantiseIdeal : Cert.QuantiseIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantiseIdeal.nD Cert.QuantiseIdeal.τ Cert.QuantiseIdeal.sig) → Buf (Elt Ideal) ℓ) (g' : Dev Cert.QuantiseIdeal.nD → PrngReg), Pre_QuantIdeal m →
    (∀ c : Dev Cert.QuantIdeal.nD,
      m' ((c.tc : Thread Cert.QuantiseIdeal.nD Cert.QuantiseIdeal.τ).loc Cert.QuantiseIdeal.main_arg0) = m ((c.tc : Thread Cert.QuantIdeal.nD Cert.QuantIdeal.τ).loc Cert.QuantIdeal.main_arg0)
      ∧ m' ((c.tc : Thread Cert.QuantiseIdeal.nD Cert.QuantiseIdeal.τ).loc Cert.QuantiseIdeal.main_arg1) = m ((c.tc : Thread Cert.QuantIdeal.nD Cert.QuantIdeal.τ).loc Cert.QuantIdeal.main_arg1)
      ∧ m' ((c.tc : Thread Cert.QuantiseIdeal.nD Cert.QuantiseIdeal.τ).loc Cert.QuantiseIdeal.main_arg2) = m ((c.tc : Thread Cert.QuantIdeal.nD Cert.QuantIdeal.τ).loc Cert.QuantIdeal.main_arg2)) →
    ∃ (v0 : (c : Dev Cert.QuantIdeal.nD) → Buf (Elt Ideal) ((c.tc : Thread Cert.QuantIdeal.nD Cert.QuantIdeal.τ).loc Cert.QuantIdeal.main_v3_0)) (v1 : (c : Dev Cert.QuantIdeal.nD) → Buf (Elt Ideal) ((c.tc : Thread Cert.QuantIdeal.nD Cert.QuantIdeal.τ).loc Cert.QuantIdeal.main_v3_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v3_0) = v0 c
          ∧ r.2.mem ((c.tc : Thread Cert.QuantIdeal.nD Cert.QuantIdeal.τ).loc Cert.QuantIdeal.main_v3_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ θ_run (Cert.QuantiseIdeal.defs (F := Ideal)) (onTc (τ := Cert.QuantiseIdeal.τ) (Cert.QuantiseIdeal.main (F := Ideal))) ⟨m', fun _ => 0, g'⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_arg0) = m' ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m' ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m' ((c.tc : Thread Cert.QuantiseIdeal.nD Cert.QuantiseIdeal.τ).loc Cert.QuantiseIdeal.main_arg2))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantiseIdeal : Cert.QuantiseIdeal.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantIdeal (hQuantIdeal := hQuantIdeal)
    ∧ quiescent_QuantiseIdeal (hQuantiseIdeal := hQuantiseIdeal)
    ∧ preserves_Kernel_KernelIdeal
    ∧ algebraic_KernelIdeal_ReferenceIdeal (hKernelIdeal := hKernelIdeal) (hReferenceIdeal := hReferenceIdeal)
    ∧ preserves_Quant_QuantIdeal
    ∧ algebraic_QuantIdeal_QuantiseIdeal (hQuantIdeal := hQuantIdeal) (hQuantiseIdeal := hQuantiseIdeal)
-- ==== Kernel.lean ====
abbrev S8192x5120 : Shape := ⟨2, ![8192, 5120]⟩
abbrev S8192x40 : Shape := ⟨2, ![8192, 40]⟩
abbrev S5120x7168 : Shape := ⟨2, ![5120, 7168]⟩
abbrev S40x56 : Shape := ⟨2, ![40, 56]⟩
abbrev S7168 : Shape := ⟨1, ![7168]⟩
abbrev S8x7168 : Shape := ⟨2, ![8, 7168]⟩
abbrev S1x7168 : Shape := ⟨2, ![1, 7168]⟩
abbrev S8x1x7168 : Shape := ⟨3, ![8, 1, 7168]⟩
abbrev S8192x7168 : Shape := ⟨2, ![8192, 7168]⟩
abbrev S512x5120 : Shape := ⟨2, ![512, 5120]⟩
abbrev S512x40 : Shape := ⟨2, ![512, 40]⟩
abbrev S5120x1024 : Shape := ⟨2, ![5120, 1024]⟩
abbrev S1x1024 : Shape := ⟨2, ![1, 1024]⟩
abbrev S1x1x1024 : Shape := ⟨3, ![1, 1, 1024]⟩
abbrev S512x1024 : Shape := ⟨2, ![512, 1024]⟩
abbrev S512x1 : Shape := ⟨2, ![512, 1]⟩
abbrev S512x128 : Shape := ⟨2, ![512, 128]⟩
abbrev S1x1 : Shape := ⟨2, ![1, 1]⟩
abbrev S128x128 : Shape := ⟨2, ![128, 128]⟩

abbrev nBuf : Space → Nat
  | .hbm => 9
  | .vmem => 14
  | .smem => 1
  | _ => 0

abbrev bufTy : (tb : Table) → Fin (tcTables nBuf tb) → BufTy
  | .hbm, ⟨0, _⟩ => ⟨S8192x5120, .fp8e4m3⟩
  | .hbm, ⟨1, _⟩ => ⟨S8192x40, .f32⟩
  | .hbm, ⟨2, _⟩ => ⟨S5120x7168, .fp8e4m3⟩
  | .hbm, ⟨3, _⟩ => ⟨S40x56, .f32⟩
  | .hbm, ⟨4, _⟩ => ⟨S7168, .bf16⟩
  | .hbm, ⟨5, _⟩ => ⟨S8x7168, .bf16⟩
  | .hbm, ⟨6, _⟩ => ⟨S1x7168, .bf16⟩
  | .hbm, ⟨7, _⟩ => ⟨S8x1x7168, .bf16⟩
  | .hbm, ⟨8, _⟩ => ⟨S8192x7168, .bf16⟩
  | .local _ .vmem, ⟨0, _⟩ => ⟨S512x5120, .fp8e4m3⟩
  | .local _ .vmem, ⟨1, _⟩ => ⟨S512x5120, .fp8e4m3⟩
  | .local _ .vmem, ⟨2, _⟩ => ⟨S512x40, .f32⟩
  | .local _ .vmem, ⟨3, _⟩ => ⟨S512x40, .f32⟩
  | .local _ .vmem, ⟨4, _⟩ => ⟨S5120x1024, .fp8e4m3⟩
  | .local _ .vmem, ⟨5, _⟩ => ⟨S5120x1024, .fp8e4m3⟩
  | .local _ .vmem, ⟨6, _⟩ => ⟨S1x1024, .bf16⟩
  | .local _ .vmem, ⟨7, _⟩ => ⟨S1x1024, .bf16⟩
  | .local _ .vmem, ⟨8, _⟩ => ⟨S1x1x1024, .bf16⟩
  | .local _ .vmem, ⟨9, _⟩ => ⟨S1x1x1024, .bf16⟩
  | .local _ .vmem, ⟨10, _⟩ => ⟨S512x1024, .bf16⟩
  | .local _ .vmem, ⟨11, _⟩ => ⟨S512x1024, .bf16⟩
  | .local _ .vmem, ⟨12, _⟩ => ⟨S512x5120, .bf16⟩
  | .local _ .vmem, ⟨13, _⟩ => ⟨S5120x1024, .bf16⟩
  | .local _ .smem, ⟨0, _⟩ => ⟨S40x56, .f32⟩
  | _, _ => ⟨S8192x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 7], ![false, false]⟩

@[reducible] def k0_t1_loop : Scf.Loop 32 :=
  let c0_i32_1 : BitVec 32 := 0#32
  let c40_i32 : BitVec 32 := 40#32
  let v3 : BitVec 32 := Scalar.addi c0_i32_1 c40_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c128_i32 : BitVec 32 := 128#32
  let v19 : BitVec 32 := Scalar.muli arg11 c128_i32
  v19
def k0_off1 (i : grid0.Coords) (k0_t1 : Fin k0_t1_loop.trips) (c0_i32_13 : BitVec 32) : Fin 2 → Nat :=
  let c0_i32_1 : BitVec 32 := 0#32
  let c1_i32 : BitVec 32 := 1#32
  let arg11 : BitVec 32 := Scf.iv c0_i32_1 c1_i32 k0_t1
  let v23 : Index := Scalar.indexCast arg11
  let arg1 : BitVec 32 := BitVec.ofNat 32 (i 1).val
  let c8_i32 : BitVec 32 := 8#32
  let v21 : BitVec 32 := Scalar.muli arg1 c8_i32
  let v22 : BitVec 32 := Scalar.addi v21 c0_i32_13
  let v24 : Index := Scalar.indexCast v22
  ![v23.toNat, v24.toNat]
def k0_off2 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v19 : BitVec 32 := Scalar.muli arg11 c128_i32
  let v20 : BitVec 32 := v19
  let v27 : Index := Scalar.indexCast v20
  let c0_14 : Index := 0#32
  ![v27.toNat, 0]
def k0_off3 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v19 : BitVec 32 := Scalar.muli arg11 c128_i32
  let v20 : BitVec 32 := v19
  let v42 : Index := Scalar.indexCast v20
  let c128 : Index := 128#32
  ![v42.toNat, 128]
def k0_off4 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v19 : BitVec 32 := Scalar.muli arg11 c128_i32
  let v20 : BitVec 32 := v19
  let v57 : Index := Scalar.indexCast v20
  let c256 : Index := 256#32
  ![v57.toNat, 256]
def k0_off5 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v19 : BitVec 32 := Scalar.muli arg11 c128_i32
  let v20 : BitVec 32 := v19
  let v72 : Index := Scalar.indexCast v20
  let c384 : Index := 384#32
  ![v72.toNat, 384]
def k0_off6 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v19 : BitVec 32 := Scalar.muli arg11 c128_i32
  let v20 : BitVec 32 := v19
  let v87 : Index := Scalar.indexCast v20
  let c512 : Index := 512#32
  ![v87.toNat, 512]
def k0_off7 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v19 : BitVec 32 := Scalar.muli arg11 c128_i32
  let v20 : BitVec 32 := v19
  let v102 : Index := Scalar.indexCast v20
  let c640 : Index := 640#32
  ![v102.toNat, 640]
def k0_off8 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v19 : BitVec 32 := Scalar.muli arg11 c128_i32
  let v20 : BitVec 32 := v19
  let v117 : Index := Scalar.indexCast v20
  let c768 : Index := 768#32
  ![v117.toNat, 768]
def k0_off9 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c128_i32 : BitVec 32 := 128#32
  let v19 : BitVec 32 := Scalar.muli arg11 c128_i32
  let v20 : BitVec 32 := v19
  let v132 : Index := Scalar.indexCast v20
  let c896 : Index := 896#32
  ![v132.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S40x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x5120 : Shape := ⟨2, ![8192, 5120]⟩
abbrev S8192x40 : Shape := ⟨2, ![8192, 40]⟩
abbrev S5120x7168 : Shape := ⟨2, ![5120, 7168]⟩
abbrev S40x56 : Shape := ⟨2, ![40, 56]⟩
abbrev S7168 : Shape := ⟨1, ![7168]⟩
abbrev S8x7168 : Shape := ⟨2, ![8, 7168]⟩
abbrev S8192x7168 : Shape := ⟨2, ![8192, 7168]⟩
abbrev S8192x40x128 : Shape := ⟨3, ![8192, 40, 128]⟩
abbrev S8192x40x1 : Shape := ⟨3, ![8192, 40, 1]⟩
abbrev S40x128x56x128 : Shape := ⟨4, ![40, 128, 56, 128]⟩
abbrev S40x1x56x1 : Shape := ⟨4, ![40, 1, 56, 1]⟩
abbrev S1x7168 : Shape := ⟨2, ![1, 7168]⟩
abbrev S8x1024x7168 : Shape := ⟨3, ![8, 1024, 7168]⟩
abbrev S8x1x7168 : Shape := ⟨3, ![8, 1, 7168]⟩

abbrev nBuf : Space → Nat
  | .hbm => 7
  | .vmem => 7
  | .smem => 0
  | _ => 0

abbrev bufTy : (tb : Table) → Fin (tcTables nBuf tb) → BufTy
  | .hbm, ⟨0, _⟩ => ⟨S8192x5120, .fp8e4m3⟩
  | .hbm, ⟨1, _⟩ => ⟨S8192x40, .f32⟩
  | .hbm, ⟨2, _⟩ => ⟨S5120x7168, .fp8e4m3⟩
  | .hbm, ⟨3, _⟩ => ⟨S40x56, .f32⟩
  | .hbm, ⟨4, _⟩ => ⟨S7168, .bf16⟩
  | .hbm, ⟨5, _⟩ => ⟨S8x7168, .bf16⟩
  | .hbm, ⟨6, _⟩ => ⟨S8192x7168, .bf16⟩
  | .local _ .vmem, ⟨0, _⟩ => ⟨S8192x5120, .fp8e4m3⟩
  | .local _ .vmem, ⟨1, _⟩ => ⟨S8192x40, .f32⟩
  | .local _ .vmem, ⟨2, _⟩ => ⟨S5120x7168, .fp8e4m3⟩
  | .local _ .vmem, ⟨3, _⟩ => ⟨S40x56, .f32⟩
  | .local _ .vmem, ⟨4, _⟩ => ⟨S7168, .bf16⟩
  | .local _ .vmem, ⟨5, _⟩ => ⟨S8x7168, .bf16⟩
  | .local _ .vmem, ⟨6, _⟩ => ⟨S8192x7168, .bf16⟩
  | _, _ => ⟨S8192x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Quant.lean ====
abbrev S8x1024x5120 : Shape := ⟨3, ![8, 1024, 5120]⟩
abbrev S8x5120 : Shape := ⟨2, ![8, 5120]⟩
abbrev S8192x5120 : Shape := ⟨2, ![8192, 5120]⟩
abbrev S8x1x5120 : Shape := ⟨3, ![8, 1, 5120]⟩
abbrev S8192x40 : Shape := ⟨2, ![8192, 40]⟩
abbrev S256x5120 : Shape := ⟨2, ![256, 5120]⟩
abbrev S1x1x5120 : Shape := ⟨3, ![1, 1, 5120]⟩
abbrev S256x40 : Shape := ⟨2, ![256, 40]⟩
abbrev S32x5120 : Shape := ⟨2, ![32, 5120]⟩
abbrev S32x40 : Shape := ⟨2, ![32, 40]⟩
abbrev S32x128 : Shape := ⟨2, ![32, 128]⟩
abbrev S32 : Shape := ⟨1, ![32]⟩
abbrev S32x1 : Shape := ⟨2, ![32, 1]⟩
abbrev S1x1x128 : Shape := ⟨3, ![1, 1, 128]⟩
abbrev S1x128 : Shape := ⟨2, ![1, 128]⟩

abbrev nBuf : Space → Nat
  | .hbm => 8
  | .vmem => 11
  | .smem => 0
  | _ => 0

abbrev bufTy : (tb : Table) → Fin (tcTables nBuf tb) → BufTy
  | .hbm, ⟨0, _⟩ => ⟨S8x1024x5120, .bf16⟩
  | .hbm, ⟨1, _⟩ => ⟨S8x5120, .bf16⟩
  | .hbm, ⟨2, _⟩ => ⟨S8x5120, .bf16⟩
  | .hbm, ⟨3, _⟩ => ⟨S8192x5120, .bf16⟩
  | .hbm, ⟨4, _⟩ => ⟨S8x1x5120, .bf16⟩
  | .hbm, ⟨5, _⟩ => ⟨S8x1x5120, .bf16⟩
  | .hbm, ⟨6, _⟩ => ⟨S8192x5120, .fp8e4m3⟩
  | .hbm, ⟨7, _⟩ => ⟨S8192x40, .f32⟩
  | .local _ .vmem, ⟨0, _⟩ => ⟨S256x5120, .bf16⟩
  | .local _ .vmem, ⟨1, _⟩ => ⟨S256x5120, .bf16⟩
  | .local _ .vmem, ⟨2, _⟩ => ⟨S1x1x5120, .bf16⟩
  | .local _ .vmem, ⟨3, _⟩ => ⟨S1x1x5120, .bf16⟩
  | .local _ .vmem, ⟨4, _⟩ => ⟨S1x1x5120, .bf16⟩
  | .local _ .vmem, ⟨5, _⟩ => ⟨S1x1x5120, .bf16⟩
  | .local _ .vmem, ⟨6, _⟩ => ⟨S256x5120, .fp8e4m3⟩
  | .local _ .vmem, ⟨7, _⟩ => ⟨S256x5120, .fp8e4m3⟩
  | .local _ .vmem, ⟨8, _⟩ => ⟨S256x40, .f32⟩
  | .local _ .vmem, ⟨9, _⟩ => ⟨S256x40, .f32⟩
  | .local _ .vmem, ⟨10, _⟩ => ⟨S32x5120, .f32⟩
  | _, _ => ⟨S8x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c1024_i32 : BitVec 32 := 1024#32
  let v1 : BitVec 32 := Scalar.divsi v0 c1024_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5120 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantIdeal.lean ====
variable {F : FTy → Type} [FloatOps F] [Named F]
def κ : String → Option EReal := fun
  | "inv_d" => some ((1 / 5120 : ℝ) : EReal)
  | "inv_ln2" => some (((Real.log 2)⁻¹ : ℝ) : EReal)
  | _ => none
-- ==== QuantiseIdeal.lean ====
abbrev S8x1024x5120 : Shape := ⟨3, ![8, 1024, 5120]⟩
abbrev S8x5120 : Shape := ⟨2, ![8, 5120]⟩
abbrev S8192x5120 : Shape := ⟨2, ![8192, 5120]⟩
abbrev S8192x40 : Shape := ⟨2, ![8192, 40]⟩
abbrev S8x1024 : Shape := ⟨2, ![8, 1024]⟩
abbrev S8x1024x1 : Shape := ⟨3, ![8, 1024, 1]⟩
abbrev S8x1x5120 : Shape := ⟨3, ![8, 1, 5120]⟩
abbrev S8x1024x40x128 : Shape := ⟨4, ![8, 1024, 40, 128]⟩
abbrev S8x1024x40 : Shape := ⟨3, ![8, 1024, 40]⟩
abbrev S8x1024x40x1 : Shape := ⟨4, ![8, 1024, 40, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x1024x5120, .bf16⟩
  | .hbm, ⟨1, _⟩ => ⟨S8x5120, .bf16⟩
  | .hbm, ⟨2, _⟩ => ⟨S8x5120, .bf16⟩
  | .hbm, ⟨3, _⟩ => ⟨S8192x5120, .fp8e4m3⟩
  | .hbm, ⟨4, _⟩ => ⟨S8192x40, .f32⟩
  | .local _ .vmem, ⟨0, _⟩ => ⟨S8x1024x5120, .bf16⟩
  | .local _ .vmem, ⟨1, _⟩ => ⟨S8x5120, .bf16⟩
  | .local _ .vmem, ⟨2, _⟩ => ⟨S8x5120, .bf16⟩
  | .local _ .vmem, ⟨3, _⟩ => ⟨S8192x5120, .fp8e4m3⟩
  | .local _ .vmem, ⟨4, _⟩ => ⟨S8192x40, .f32⟩
  | _, _ => ⟨S8x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "inv_ln2" => some (((Real.log 2)⁻¹ : ℝ) : EReal)
  | _ => none

abbrev grid0 : Pipeline.Grid := .none

abbrev stage0_0 : Fin 1 → Memref sig .tc .vmem S8x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.ScratchA.lean ====
module
public import proofs.«01_k».proof.Proof.Gen.KernelIdeal.Value
public import Idealize.ShloMosaic.PureOps.Ideal
public import Idealize.ShloMosaic.Lib.ValueIdx
@[expose] public section
noncomputable section
namespace Cert.Proof.ScratchA
open Cert.KernelIdeal Cert.KernelIdeal.Gen Idealize.ShloMosaic Idealize.ShloMosaic.TcCoe Idealize.SL.Sem
open Idealize.ShloMosaic.Tactic Idealize.ShloMosaic.ValueIdx

/-- The row tile of activations, dequantised: each code times the scale of the 128 columns its column lies in. -/
def A (x0 : Vec Ideal S512x5120 .fp8e4m3) (x1 : Vec Ideal S512x40 .f32) : Vec Ideal S512x5120 .bf16 :=
  fun y => (x0 y * x1 (ix2 (y 0) ⟨(y 1).val / 128, by have : (y 1).val < 5120 := (y 1).isLt; omega⟩) : EReal)

/-- One of the forty column groups: the codes of columns `128 g …` times column `g` of the scales, spread over the
    group's 128 columns, is that group of `A`. -/
theorem piece (x0 : Vec Ideal S512x5120 .fp8e4m3) (x1 : Vec Ideal S512x40 .f32) (g o : ℕ) (ho : o = 128 * g)
    (inb : ∀ a, (![0, g] : Fin 2 → ℕ) a + (![512, 1] : Fin 2 → ℕ) a ≤ S512x40.size a)
    (inb' : ∀ a, (![0, o] : Fin 2 → ℕ) a + (![512, 128] : Fin 2 → ℕ) a ≤ S512x5120.size a) (x : S512x128.Idx) :
    k0_pay8 (F := Ideal) (View.ld x1 (Rect.unit (s := S512x40) ![0, g] ![512, 1] inb)) (View.ld x0 (Rect.unit (s := S512x5120) ![0, o] ![512, 128] inb')) x
      = A x0 x1 ((Rect.unit (s := S512x5120) ![0, o] ![512, 128] inb').emb x) := by
  subst ho
  have h1 : (x 1).val < 128 := (x 1).isLt
  have h0 : (x 0).val < 512 := (x 0).isLt
  have e0 : ((Rect.unit (s := S512x5120) ![0, 128 * g] ![512, 128] inb').emb x 0).val = 0 + 1 * (x 0).val := rfl
  have e1 : ((Rect.unit (s := S512x5120) ![0, 128 * g] ![512, 128] inb').emb x 1).val = 128 * g + 1 * (x 1).val := rfl
  unfold k0_pay8 A
  rw [shapeCast_self]
  simp only [mulf_apply]
  refine congrArg₂ (· * ·) rfl ?_
  refine (broadcastTo_apply _ _ x (ix2 (x 0) 0) (by intro a; match a with | ⟨0, _⟩ => rfl | ⟨1, _⟩ => rfl)).trans ?_
  refine congrArg x1 (funext fun a => Fin.ext ?_)
  match a with
  | ⟨0, _⟩ =>
    show 0 + 1 * (x 0).val = ((Rect.unit (s := S512x5120) ![0, 128 * g] ![512, 128] inb').emb x 0).val
    rw [e0]
  | ⟨1, _⟩ =>
    show g + 1 * 0 = ((Rect.unit (s := S512x5120) ![0, 128 * g] ![512, 128] inb').emb x 1).val / 128
    rw [e1]; omega

set_option maxHeartbeats 4000000 in
/-- What the first point of a row tile stores into the activation scratch, its forty column groups each as stored: the
    dequantised tile. -/
theorem canon_A (c : Dev nD) (i : grid0.Coords) (arg2 : Memref sig .tc .vmem S512x5120 .fp8e4m3) (harg2 : arg2.IsWhole) (arg3 : Memref sig .tc .vmem S512x40 .f32) (harg3 : arg3.IsWhole) (arg4 : Memref sig .tc .vmem S5120x1024 .fp8e4m3) (harg4 : arg4.IsWhole) (arg5 : Memref sig .tc .smem S40x56 .f32) (harg5 : arg5.IsWhole) (arg6 : Memref sig .tc .vmem S1x1024 .bf16) (harg6 : arg6.IsWhole) (arg7 : Memref sig .tc .vmem S1x1x1024 .bf16) (harg7 : arg7.IsWhole) (arg8 : Memref sig .tc .vmem S512x1024 .bf16) (harg8 : arg8.IsWhole) (arg9 : Memref sig .tc .vmem S512x5120 .bf16) (harg9 : arg9.IsWhole) (arg10 : Memref sig .tc .vmem S5120x1024 .bf16) (harg10 : arg10.IsWhole) (hc0 : cond0_0 i)
    (x0 : Vec Ideal S512x5120 .fp8e4m3) (x1 : Vec Ideal S512x40 .f32) (x2 : Vec Ideal S5120x1024 .fp8e4m3) (x3 : Vec Ideal S40x56 .f32) (x4 : Vec Ideal S1x1024 .bf16) (x5 : Vec Ideal S1x1x1024 .bf16) :
   View.canon (kernelRun0_A c i arg2 harg2 arg3 harg3 arg4 harg4 arg5 harg5 arg6 harg6 arg7 harg7 arg8 harg8 arg9 harg9 arg10 harg10 hc0 x0 x1 x2 x3 x4 x5).2.1 = A x0 x1 := by
  have hc := scover0_A_0 c i arg2 harg2 arg3 harg3 arg4 harg4 arg5 harg5 arg6 harg6 arg7 harg7 arg8 harg8 arg9 harg9 arg10 harg10 hc0 x0 x1 x2 x3 x4 x5
  funext y
  refine View.canon_apply_of_pieces (A x0 x1) _ ?_ y (hc y)
  clear hc
  unfold kernelRun0_A; dsimp only; sl_unfold_words
  simp only [List.forall_mem_cons, View.readAt_eq_ld, harg2.read_unread, harg3.read_unread]
  refine ⟨fun x => piece x0 x1 39 4992 rfl _ _ x,
    fun x => piece x0 x1 38 4864 rfl _ _ x,
    fun x => piece x0 x1 37 4736 rfl _ _ x,
    fun x => piece x0 x1 36 4608 rfl _ _ x,
    fun x => piece x0 x1 35 4480 rfl _ _ x,
    fun x => piece x0 x1 34 4352 rfl _ _ x,
    fun x => piece x0 x1 33 4224 rfl _ _ x,
    fun x => piece x0 x1 32 4096 rfl _ _ x,
    fun x => piece x0 x1 31 3968 rfl _ _ x,
    fun x => piece x0 x1 30 3840 rfl _ _ x,
    fun x => piece x0 x1 29 3712 rfl _ _ x,
    fun x => piece x0 x1 28 3584 rfl _ _ x,
    fun x => piece x0 x1 27 3456 rfl _ _ x,
    fun x => piece x0 x1 26 3328 rfl _ _ x,
    fun x => piece x0 x1 25 3200 rfl _ _ x,
    fun x => piece x0 x1 24 3072 rfl _ _ x,
    fun x => piece x0 x1 23 2944 rfl _ _ x,
    fun x => piece x0 x1 22 2816 rfl _ _ x,
    fun x => piece x0 x1 21 2688 rfl _ _ x,
    fun x => piece x0 x1 20 2560 rfl _ _ x,
    fun x => piece x0 x1 19 2432 rfl _ _ x,
    fun x => piece x0 x1 18 2304 rfl _ _ x,
    fun x => piece x0 x1 17 2176 rfl _ _ x,
    fun x => piece x0 x1 16 2048 rfl _ _ x,
    fun x => piece x0 x1 15 1920 rfl _ _ x,
    fun x => piece x0 x1 14 1792 rfl _ _ x,
    fun x => piece x0 x1 13 1664 rfl _ _ x,
    fun x => piece x0 x1 12 1536 rfl _ _ x,
    fun x => piece x0 x1 11 1408 rfl _ _ x,
    fun x => piece x0 x1 10 1280 rfl _ _ x,
    fun x => piece x0 x1 9 1152 rfl _ _ x,
    fun x => piece x0 x1 8 1024 rfl _ _ x,
    fun x => piece x0 x1 7 896 rfl _ _ x,
    fun x => piece x0 x1 6 768 rfl _ _ x,
    fun x => piece x0 x1 5 640 rfl _ _ x,
    fun x => piece x0 x1 4 512 rfl _ _ x,
    fun x => piece x0 x1 3 384 rfl _ _ x,
    fun x => piece x0 x1 2 256 rfl _ _ x,
    fun x => piece x0 x1 1 128 rfl _ _ x,
    fun x => piece x0 x1 0 0 rfl _ _ x,
    by simp⟩

/-- So that is what the first point of a row tile leaves in the activation scratch. -/
theorem sout_A (c : Dev nD) (i : grid0.Coords) (arg2 : Memref sig .tc .vmem S512x5120 .fp8e4m3) (harg2 : arg2.IsWhole) (arg3 : Memref sig .tc .vmem S512x40 .f32) (harg3 : arg3.IsWhole) (arg4 : Memref sig .tc .vmem S5120x1024 .fp8e4m3) (harg4 : arg4.IsWhole) (arg5 : Memref sig .tc .smem S40x56 .f32) (harg5 : arg5.IsWhole) (arg6 : Memref sig .tc .vmem S1x1024 .bf16) (harg6 : arg6.IsWhole) (arg7 : Memref sig .tc .vmem S1x1x1024 .bf16) (harg7 : arg7.IsWhole) (arg8 : Memref sig .tc .vmem S512x1024 .bf16) (harg8 : arg8.IsWhole) (arg9 : Memref sig .tc .vmem S512x5120 .bf16) (harg9 : arg9.IsWhole) (arg10 : Memref sig .tc .vmem S5120x1024 .bf16) (harg10 : arg10.IsWhole) (hc0 : cond0_0 i)
    (x0 : Vec Ideal S512x5120 .fp8e4m3) (x1 : Vec Ideal S512x40 .f32) (x2 : Vec Ideal S5120x1024 .fp8e4m3) (x3 : Vec Ideal S40x56 .f32) (x4 : Vec Ideal S1x1024 .bf16) (x5 : Vec Ideal S1x1x1024 .bf16) :
    sout0_A_0 c i arg2 harg2 arg3 harg3 arg4 harg4 arg5 harg5 arg6 harg6 arg7 harg7 arg8 harg8 arg9 harg9 arg10 harg10 hc0 x0 x1 x2 x3 x4 x5 = A x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  exact canon_A c i arg2 harg2 arg3 harg3 arg4 harg4 arg5 harg5 arg6 harg6 arg7 harg7 arg8 harg8 arg9 harg9 arg10 harg10 hc0 x0 x1 x2 x3 x4 x5

end Cert.Proof.ScratchA
end
-- ==== Proof.ScratchW.lean ====
module
public import proofs.«01_k».proof.Proof.Gen.KernelIdeal.Value
public import Idealize.ShloMosaic.PureOps.Ideal
public import Idealize.ShloMosaic.Lib.ValueIdx
@[expose] public section
noncomputable section
namespace Cert.Proof.ScratchW
open Cert.KernelIdeal Cert.KernelIdeal.Gen Idealize.ShloMosaic Idealize.ShloMosaic.TcCoe Idealize.SL.Sem
open Idealize.ShloMosaic.Tactic Idealize.ShloMosaic.ValueIdx

/-- The block of weights of column tile `j`, dequantised: each code times the scale of the 128 × 128 block it lies in. -/
def W (x2 : Vec Ideal S5120x1024 .fp8e4m3) (x3 : Vec Ideal S40x56 .f32) (j : Fin 7) : Vec Ideal S5120x1024 .bf16 :=
  fun y => (x2 y * x3 (ix2 ⟨(y 0).val / 128, by have : (y 0).val < 5120 := (y 0).isLt; omega⟩
    ⟨8 * j.val + (y 1).val / 128, by have : (y 1).val < 1024 := (y 1).isLt; omega⟩) : EReal)

/-- One 128 × 128 piece: the codes at rows `128 k …`, columns `128 r …` times the scale at `(k, 8 j + r)`, is that
    piece of `W`. -/
theorem piece (x2 : Vec Ideal S5120x1024 .fp8e4m3) (x3 : Vec Ideal S40x56 .f32) (k : ℕ) (j : Fin 7) (r : ℕ) (hr : r < 8)
    (off : Fin 2 → ℕ) (o : ℕ) (ho : o = 128 * r) (hoff : off = ![128 * k, o]) (offs : Fin 2 → ℕ) (hoffs : offs = ![k, 8 * j.val + r])
    (inb : ∀ a, offs a + S1x1.size a ≤ S40x56.size a) (inb' : ∀ a, off a + S128x128.size a ≤ S5120x1024.size a)
    (h1 : 0 < S1x1.numel) (x : S128x128.Idx) :
    k0_pay56 (F := Ideal) (View.ld x3 (Rect.unit (s := S40x56) offs S1x1.size inb) (Shape.Idx.first h1)) (View.ld x2 (Rect.unit (s := S5120x1024) off S128x128.size inb')) x
      = W x2 x3 j ((Rect.unit (s := S5120x1024) off S128x128.size inb').emb x) := by
  subst hoff hoffs ho
  have l1 : (x 1).val < 128 := (x 1).isLt
  have l0 : (x 0).val < 128 := (x 0).isLt
  have e0 : ((Rect.unit (s := S5120x1024) ![128 * k, 128 * r] S128x128.size inb').emb x 0).val = 128 * k + 1 * (x 0).val := rfl
  have e1 : ((Rect.unit (s := S5120x1024) ![128 * k, 128 * r] S128x128.size inb').emb x 1).val = 128 * r + 1 * (x 1).val := rfl
  unfold k0_pay56 W
  rw [shapeCast_self]
  simp only [mulf_apply]
  refine congrArg₂ (· * ·) rfl ?_
  show View.ld x3 (Rect.unit (s := S40x56) ![k, 8 * j.val + r] S1x1.size inb) (Shape.Idx.first h1) = _
  refine congrArg x3 (funext fun a => Fin.ext ?_)
  have z : ∀ a : Fin 2, ((Shape.Idx.first h1 : S1x1.Idx) a).val = 0 := fun a => by
    have : ((Shape.Idx.first h1 : S1x1.Idx) a).val < S1x1.size a := ((Shape.Idx.first h1 : S1x1.Idx) a).isLt
    match a with
    | ⟨0, _⟩ => exact Nat.lt_one_iff.mp this
    | ⟨1, _⟩ => exact Nat.lt_one_iff.mp this
  match a with
  | ⟨0, _⟩ =>
    show k + 1 * ((Shape.Idx.first h1 : S1x1.Idx) 0).val = ((Rect.unit (s := S5120x1024) ![128 * k, 128 * r] S128x128.size inb').emb x 0).val / 128
    rw [e0, z]; omega
  | ⟨1, _⟩ =>
    show 8 * j.val + r + 1 * ((Shape.Idx.first h1 : S1x1.Idx) 1).val = 8 * j.val + ((Rect.unit (s := S5120x1024) ![128 * k, 128 * r] S128x128.size inb').emb x 1).val / 128
    rw [e1, z]; omega

/-- The eight stores of one trip each write their 128 × 128 piece of `W`. -/
theorem trip_W (𝒱 : Variants) (c : Dev nD) (bd : Option 𝒱.V) (i : grid0.Coords) (arg2 : Memref sig .tc .vmem S512x5120 .fp8e4m3) (harg2 : arg2.IsWhole) (arg3 : Memref sig .tc .vmem S512x40 .f32) (harg3 : arg3.IsWhole) (arg4 : Memref sig .tc .vmem S5120x1024 .fp8e4m3) (harg4 : arg4.IsWhole) (arg5 : Memref sig .tc .smem S40x56 .f32) (harg5 : arg5.IsWhole) (arg6 : Memref sig .tc .vmem S1x1024 .bf16) (harg6 : arg6.IsWhole) (arg7 : Memref sig .tc .vmem S1x1x1024 .bf16) (harg7 : arg7.IsWhole) (arg8 : Memref sig .tc .vmem S512x1024 .bf16) (harg8 : arg8.IsWhole) (arg9 : Memref sig .tc .vmem S512x5120 .bf16) (harg9 : arg9.IsWhole) (arg10 : Memref sig .tc .vmem S5120x1024 .bf16) (harg10 : arg10.IsWhole) (arg1 : BitVec 32)
    (x2 : Vec Ideal S5120x1024 .fp8e4m3) (x3 : Vec Ideal S40x56 .f32) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg1 (harg4.unread x2) (harg5.unread x3) k,
      ∀ x : p.1.shape.Idx, p.2 x = W x2 x3 (i 1) (p.1.emb x) := by
  unfold tripL_k0_t1 trip_k0_t1; dsimp only; sl_unfold_words
  simp only [List.forall_mem_cons, View.readAt_eq_ld, harg4.read_unread, harg5.read_unread]
  refine ⟨fun x => piece x2 x3 k.val (i 1) 7 (by decide) _ 896 rfl (k0_off9_eq k) _ (k0_off1_eq i k 7) _ _ _ x,
    fun x => piece x2 x3 k.val (i 1) 6 (by decide) _ 768 rfl (k0_off8_eq k) _ (k0_off1_eq i k 6) _ _ _ x,
    fun x => piece x2 x3 k.val (i 1) 5 (by decide) _ 640 rfl (k0_off7_eq k) _ (k0_off1_eq i k 5) _ _ _ x,
    fun x => piece x2 x3 k.val (i 1) 4 (by decide) _ 512 rfl (k0_off6_eq k) _ (k0_off1_eq i k 4) _ _ _ x,
    fun x => piece x2 x3 k.val (i 1) 3 (by decide) _ 384 rfl (k0_off5_eq k) _ (k0_off1_eq i k 3) _ _ _ x,
    fun x => piece x2 x3 k.val (i 1) 2 (by decide) _ 256 rfl (k0_off4_eq k) _ (k0_off1_eq i k 2) _ _ _ x,
    fun x => piece x2 x3 k.val (i 1) 1 (by decide) _ 128 rfl (k0_off3_eq k) _ (k0_off1_eq i k 1) _ _ _ x,
    fun x => piece x2 x3 k.val (i 1) 0 (by decide) _ 0 rfl (k0_off2_eq k) _ (k0_off1_eq i k 0) _ _ _ x,
    by simp⟩

/-- So do the stores of the trips before any trip: every piece written is that piece of `W`. -/
theorem pieces_W (𝒱 : Variants) (c : Dev nD) (bd : Option 𝒱.V) (i : grid0.Coords) (arg2 : Memref sig .tc .vmem S512x5120 .fp8e4m3) (harg2 : arg2.IsWhole) (arg3 : Memref sig .tc .vmem S512x40 .f32) (harg3 : arg3.IsWhole) (arg4 : Memref sig .tc .vmem S5120x1024 .fp8e4m3) (harg4 : arg4.IsWhole) (arg5 : Memref sig .tc .smem S40x56 .f32) (harg5 : arg5.IsWhole) (arg6 : Memref sig .tc .vmem S1x1024 .bf16) (harg6 : arg6.IsWhole) (arg7 : Memref sig .tc .vmem S1x1x1024 .bf16) (harg7 : arg7.IsWhole) (arg8 : Memref sig .tc .vmem S512x1024 .bf16) (harg8 : arg8.IsWhole) (arg9 : Memref sig .tc .vmem S512x5120 .bf16) (harg9 : arg9.IsWhole) (arg10 : Memref sig .tc .vmem S5120x1024 .bf16) (harg10 : arg10.IsWhole) (arg1 : BitVec 32)
    (x2 : Vec Ideal S5120x1024 .fp8e4m3) (x3 : Vec Ideal S40x56 .f32) : ∀ k : ℕ, k ≤ k0_t1_loop.trips →
    ∀ p ∈ pb_k0_t1 (F := Ideal) 𝒱 c bd i arg2 harg2 arg3 harg3 arg4 harg4 arg5 harg5 arg6 harg6 arg7 harg7 arg8 harg8 arg9 harg9 arg10 harg10 arg1 (harg4.unread x2) (harg5.unread x3) k,
      ∀ x : p.1.shape.Idx, p.2 x = W x2 x3 (i 1) (p.1.emb x)
  | 0, _ => fun p hp => by rw [pb_k0_t1.eq_1] at hp; exact absurd hp List.not_mem_nil
  | k + 1, hk => fun p hp => by
    have e := pb_k0_t1_succ (F := Ideal) 𝒱 c bd i arg2 harg2 arg3 harg3 arg4 harg4 arg5 harg5 arg6 harg6 arg7 harg7 arg8 harg8 arg9 harg9 arg10 harg10 arg1 (harg4.unread x2) (harg5.unread x3) ⟨k, hk⟩
    dsimp only at e
    rw [e] at hp
    rcases List.mem_append.mp hp with h | h
    · exact trip_W 𝒱 c bd i arg2 harg2 arg3 harg3 arg4 harg4 arg5 harg5 arg6 harg6 arg7 harg7 arg8 harg8 arg9 harg9 arg10 harg10 arg1 x2 x3 ⟨k, hk⟩ p h
    · exact pieces_W 𝒱 c bd i arg2 harg2 arg3 harg3 arg4 harg4 arg5 harg5 arg6 harg6 arg7 harg7 arg8 harg8 arg9 harg9 arg10 harg10 arg1 x2 x3 k (Nat.le_of_succ_le hk) p h

/-- The forty trips together store the whole weight scratch: read back, it is `W`. -/
theorem scratch_W (𝒱 : Variants) (c : Dev nD) (bd : Option 𝒱.V) (i : grid0.Coords) (arg2 : Memref sig .tc .vmem S512x5120 .fp8e4m3) (harg2 : arg2.IsWhole) (arg3 : Memref sig .tc .vmem S512x40 .f32) (harg3 : arg3.IsWhole) (arg4 : Memref sig .tc .vmem S5120x1024 .fp8e4m3) (harg4 : arg4.IsWhole) (arg5 : Memref sig .tc .smem S40x56 .f32) (harg5 : arg5.IsWhole) (arg6 : Memref sig .tc .vmem S1x1024 .bf16) (harg6 : arg6.IsWhole) (arg7 : Memref sig .tc .vmem S1x1x1024 .bf16) (harg7 : arg7.IsWhole) (arg8 : Memref sig .tc .vmem S512x1024 .bf16) (harg8 : arg8.IsWhole) (arg9 : Memref sig .tc .vmem S512x5120 .bf16) (harg9 : arg9.IsWhole) (arg10 : Memref sig .tc .vmem S5120x1024 .bf16) (harg10 : arg10.IsWhole) (arg1 : BitVec 32)
    (x2 : Vec Ideal S5120x1024 .fp8e4m3) (x3 : Vec Ideal S40x56 .f32) (off : Fin 2 → ℕ) (hoff : off = fun _ => 0)
    (inb : ∀ a, off a + S5120x1024.size a ≤ S5120x1024.size a) :
    arg10.view.readCov (pb_k0_t1 (F := Ideal) 𝒱 c bd i arg2 harg2 arg3 harg3 arg4 harg4 arg5 harg5 arg6 harg6 arg7 harg7 arg8 harg8 arg9 harg9 arg10 harg10 arg1 (harg4.unread x2) (harg5.unread x3) (Scf.trips k0_t1_loop.lb k0_t1_loop.ub k0_t1_loop.st))
        (Rect.unit (s := S5120x1024) off S5120x1024.size inb).toLoadRect = W x2 x3 (i 1) := by
  have hcov : ∀ y : S5120x1024.Idx, ∃ pc ∈ pb_k0_t1 (F := Ideal) 𝒱 c bd i arg2 harg2 arg3 harg3 arg4 harg4 arg5 harg5 arg6 harg6 arg7 harg7 arg8 harg8 arg9 harg9 arg10 harg10 arg1 (harg4.unread x2) (harg5.unread x3) (Scf.trips k0_t1_loop.lb k0_t1_loop.ub k0_t1_loop.st), y ∈ pc.1.set :=
    View.cover_of_tiledL _ S128x128.size (by sl_kernel_rfl)
  rw [View.readCov_eq_canon_ld _ _ _ hcov, View.ld_unit_zero hoff]
  funext y
  exact View.canon_apply_of_pieces (W x2 x3 (i 1)) _
    (pieces_W 𝒱 c bd i arg2 harg2 arg3 harg3 arg4 harg4 arg5 harg5 arg6 harg6 arg7 harg7 arg8 harg8 arg9 harg9 arg10 harg10 arg1 x2 x3 _ le_rfl) y (hcov y)

end Cert.Proof.ScratchW
end
-- ==== Proof.Block.lean ====
module
public import proofs.«01_k».proof.Proof.ScratchA
public import proofs.«01_k».proof.Proof.ScratchW
@[expose] public section
noncomputable section
namespace Cert.Proof.Block
open Cert.KernelIdeal Cert.KernelIdeal.Gen Idealize.ShloMosaic Idealize.ShloMosaic.TcCoe Idealize.SL.Sem
open Idealize.ShloMosaic.Tactic Idealize.ShloMosaic.ValueIdx

/-- The zero offsets of a whole two-axis access. -/
theorem hz : (![0, 0] : Fin 2 → ℕ) = fun _ => 0 := funext fun a => by fin_cases a <;> rfl

/-- The zero offsets of a whole three-axis access. -/
theorem hz3 : (![0, 0, 0] : Fin 3 → ℕ) = fun _ => 0 := funext fun a => by fin_cases a <;> rfl

/-- What a later point of a row tile writes to its result block: the product of the scratch it finds with its own
    weight block, biased and gated. -/
theorem out_B (c : Dev nD) (i : grid0.Coords) (arg2 : Memref sig .tc .vmem S512x5120 .fp8e4m3) (harg2 : arg2.IsWhole) (arg3 : Memref sig .tc .vmem S512x40 .f32) (harg3 : arg3.IsWhole) (arg4 : Memref sig .tc .vmem S5120x1024 .fp8e4m3) (harg4 : arg4.IsWhole) (arg5 : Memref sig .tc .smem S40x56 .f32) (harg5 : arg5.IsWhole) (arg6 : Memref sig .tc .vmem S1x1024 .bf16) (harg6 : arg6.IsWhole) (arg7 : Memref sig .tc .vmem S1x1x1024 .bf16) (harg7 : arg7.IsWhole) (arg8 : Memref sig .tc .vmem S512x1024 .bf16) (harg8 : arg8.IsWhole) (arg9 : Memref sig .tc .vmem S512x5120 .bf16) (harg9 : arg9.IsWhole) (arg10 : Memref sig .tc .vmem S5120x1024 .bf16) (harg10 : arg10.IsWhole) (hc0 : ¬ cond0_0 i)
    (x0 : Vec Ideal S512x5120 .fp8e4m3) (x1 : Vec Ideal S512x40 .f32) (x2 : Vec Ideal S5120x1024 .fp8e4m3) (x3 : Vec Ideal S40x56 .f32) (x4 : Vec Ideal S1x1024 .bf16) (x5 : Vec Ideal S1x1x1024 .bf16) (xs0 : Vec Ideal S512x5120 .bf16) :
    out0_B_6 c i arg2 harg2 arg3 harg3 arg4 harg4 arg5 harg5 arg6 harg6 arg7 harg7 arg8 harg8 arg9 harg9 arg10 harg10 hc0 x0 x1 x2 x3 x4 x5 xs0 = k0_pay7 xs0 (ScratchW.W x2 x3 (i 1)) x4 x5 := by
  have hc := cover0_B_6 c i arg2 harg2 arg3 harg3 arg4 harg4 arg5 harg5 arg6 harg6 arg7 harg7 arg8 harg8 arg9 harg9 arg10 harg10 hc0 x0 x1 x2 x3 x4 x5 xs0
  unfold out0_B_6
  rw [View.read_writes_eq_canon _ _ _ hc]
  clear hc
  unfold kernelRun0_B; dsimp only; sl_unfold_words
  simp only [View.readAt_eq_ld, harg9.read_unread, harg6.read_unread, harg7.read_unread]
  refine (View.canon_unit_zero (S := S512x1024) hz _ _).trans ?_
  refine congr (congr (congr (congrArg k0_pay7 ?_) ?_) ?_) ?_
  · exact View.ld_unit_zero (S := S512x5120) hz _ xs0
  · exact ScratchW.scratch_W Variants.none c none i arg2 harg2 arg3 harg3 arg4 harg4 arg5 harg5 arg6 harg6 arg7 harg7 arg8 harg8 arg9 harg9 arg10 harg10 _ x2 x3 _ hz _
  · exact View.ld_unit_zero (S := S1x1024) hz _ x4
  · exact View.ld_unit_zero (S := S1x1x1024) hz3 _ x5

/-- What the first point of a row tile writes to its result block: the same, of the scratch it has just filled. -/
theorem out_A (c : Dev nD) (i : grid0.Coords) (arg2 : Memref sig .tc .vmem S512x5120 .fp8e4m3) (harg2 : arg2.IsWhole) (arg3 : Memref sig .tc .vmem S512x40 .f32) (harg3 : arg3.IsWhole) (arg4 : Memref sig .tc .vmem S5120x1024 .fp8e4m3) (harg4 : arg4.IsWhole) (arg5 : Memref sig .tc .smem S40x56 .f32) (harg5 : arg5.IsWhole) (arg6 : Memref sig .tc .vmem S1x1024 .bf16) (harg6 : arg6.IsWhole) (arg7 : Memref sig .tc .vmem S1x1x1024 .bf16) (harg7 : arg7.IsWhole) (arg8 : Memref sig .tc .vmem S512x1024 .bf16) (harg8 : arg8.IsWhole) (arg9 : Memref sig .tc .vmem S512x5120 .bf16) (harg9 : arg9.IsWhole) (arg10 : Memref sig .tc .vmem S5120x1024 .bf16) (harg10 : arg10.IsWhole) (hc0 : cond0_0 i)
    (x0 : Vec Ideal S512x5120 .fp8e4m3) (x1 : Vec Ideal S512x40 .f32) (x2 : Vec Ideal S5120x1024 .fp8e4m3) (x3 : Vec Ideal S40x56 .f32) (x4 : Vec Ideal S1x1024 .bf16) (x5 : Vec Ideal S1x1x1024 .bf16) :
    out0_A_6 c i arg2 harg2 arg3 harg3 arg4 harg4 arg5 harg5 arg6 harg6 arg7 harg7 arg8 harg8 arg9 harg9 arg10 harg10 hc0 x0 x1 x2 x3 x4 x5 = k0_pay7 (ScratchA.A x0 x1) (ScratchW.W x2 x3 (i 1)) x4 x5 := by
  have hc := cover0_A_6 c i arg2 harg2 arg3 harg3 arg4 harg4 arg5 harg5 arg6 harg6 arg7 harg7 arg8 harg8 arg9 harg9 arg10 harg10 hc0 x0 x1 x2 x3 x4 x5
  have ha := ScratchA.canon_A c i arg2 harg2 arg3 harg3 arg4 harg4 arg5 harg5 arg6 harg6 arg7 harg7 arg8 harg8 arg9 harg9 arg10 harg10 hc0 x0 x1 x2 x3 x4 x5
  have hs := scover0_A_0 c i arg2 harg2 arg3 harg3 arg4 harg4 arg5 harg5 arg6 harg6 arg7 harg7 arg8 harg8 arg9 harg9 arg10 harg10 hc0 x0 x1 x2 x3 x4 x5
  unfold out0_A_6
  rw [View.read_writes_eq_canon _ _ _ hc]
  clear hc
  unfold kernelRun0_A at ha hs ⊢; dsimp only at ha hs ⊢; sl_unfold_words
  simp only [View.readAt_eq_ld, harg6.read_unread, harg7.read_unread]
  refine (View.canon_unit_zero (S := S512x1024) hz _ _).trans ?_
  refine congr (congr (congr (congrArg k0_pay7 ?_) ?_) ?_) ?_
  · exact (View.readCov_eq_canon_ld _ _ _ hs).trans ((View.ld_unit_zero (S := S512x5120) hz _ _).trans ha)
  · exact ScratchW.scratch_W Variants.none c none i arg2 harg2 arg3 harg3 arg4 harg4 arg5 harg5 arg6 harg6 arg7 harg7 arg8 harg8 arg9 harg9 arg10 harg10 _ x2 x3 _ hz _
  · exact View.ld_unit_zero (S := S1x1024) hz _ x4
  · exact View.ld_unit_zero (S := S1x1x1024) hz3 _ x5

end Cert.Proof.Block
end
-- ==== Proof.Carried.lean ====
module
public import proofs.«01_k».proof.Proof.Block
@[expose] public section
noncomputable section
namespace Cert.Proof.Carried
open Cert.KernelIdeal Cert.KernelIdeal.Gen Idealize.ShloMosaic Idealize.ShloMosaic.TcCoe Idealize.SL.Sem
open Idealize.ShloMosaic.Tactic Idealize.ShloMosaic.ValueIdx

variable (m : (ℓ : Loc nD τ sig) → Buf (Elt Ideal) ℓ)

/-- The block of codes and the block of row scales depend on the row tile alone. -/
theorem index_row : ∀ t : Fin cfg0.N, win0_0.index t = ![t.val / 7, 0] ∧ win0_1.index t = ![t.val / 7, 0] :=
  (by decide +kernel : ∀ t : Fin grid0.N, win0_0.index t = ![t.val / 7, 0] ∧ win0_1.index t = ![t.val / 7, 0])

/-- An element of the point's block of codes. -/
theorem iblk0_apply (c : Dev nD) (t : Fin cfg0.N) (r : Fin 512) (k : Fin 5120) (R : Fin 8192)
    (hR : R.val = t.val / 7 * 512 + r.val) :
    iblk m c 0 t (ix2 r k) = m ((c : Thread nD τ).loc main_arg0) (ix2 R k) := by
  show V m c main_arg0 (((cfg0.win 0).blk t).view.emb (ix2 r k)) = _
  rw [V_main_arg0]
  refine congrArg _ (funext fun a => ?_)
  obtain ⟨h, _⟩ := index_row t
  match a with
  | ⟨0, _⟩ =>
    apply Fin.ext
    show win0_0.index t 0 * 512 + 1 * r.val = R.val
    rw [h, hR]; show t.val / 7 * 512 + 1 * r.val = _; omega
  | ⟨1, _⟩ =>
    apply Fin.ext
    show win0_0.index t 1 * 5120 + 1 * k.val = k.val
    rw [h]; show 0 * 5120 + 1 * k.val = _; omega

/-- An element of the point's block of row scales. -/
theorem iblk1_apply (c : Dev nD) (t : Fin cfg0.N) (r : Fin 512) (k : Fin 40) (R : Fin 8192)
    (hR : R.val = t.val / 7 * 512 + r.val) :
    iblk m c 1 t (ix2 r k) = m ((c : Thread nD τ).loc main_arg1) (ix2 R k) := by
  show V m c main_arg1 (((cfg0.win 1).blk t).view.emb (ix2 r k)) = _
  rw [V_main_arg1]
  refine congrArg _ (funext fun a => ?_)
  obtain ⟨_, h⟩ := index_row t
  match a with
  | ⟨0, _⟩ =>
    apply Fin.ext
    show win0_1.index t 0 * 512 + 1 * r.val = R.val
    rw [h, hR]; show t.val / 7 * 512 + 1 * r.val = _; omega
  | ⟨1, _⟩ =>
    apply Fin.ext
    show win0_1.index t 1 * 40 + 1 * k.val = k.val
    rw [h]; show 0 * 40 + 1 * k.val = _; omega

/-- A row of a row tile, as a row of the array. -/
theorem row_lt (t : Fin cfg0.N) (r : Fin 512) : t.val / 7 * 512 + r.val < 8192 := by
  have := lt_of_lt_of_eq t.isLt (show cfg0.N = 112 from N_0)
  have := r.isLt
  omega

/-- Row tile `q` of the dequantised activations. -/
def rows (a0 : Vec Ideal S8192x5120 .fp8e4m3) (a1 : Vec Ideal S8192x40 .f32) (q : ℕ) (hq : q < 16) :
    Vec Ideal S512x5120 .bf16 := fun y =>
  a0 (ix2 (⟨q * 512 + (y 0).val, by have : (y 0).val < 512 := (y 0).isLt; omega⟩ : Fin 8192) (y 1 : Fin 5120))
    * a1 (ix2 (⟨q * 512 + (y 0).val, by have : (y 0).val < 512 := (y 0).isLt; omega⟩ : Fin 8192)
      (⟨(y 1).val / 128, Nat.div_lt_of_lt_mul (y 1).isLt⟩ : Fin 40))

/-- An element of a row tile, by its row of the array. -/
theorem rows_apply (a0 : Vec Ideal S8192x5120 .fp8e4m3) (a1 : Vec Ideal S8192x40 .f32) (q : ℕ) (hq : q < 16)
    (r : Fin 512) (k : Fin 5120) (R : Fin 8192) (hR : R.val = q * 512 + r.val) :
    rows a0 a1 q hq (ix2 r k) = a0 (ix2 R k) * a1 (ix2 R (⟨k.val / 128, Nat.div_lt_of_lt_mul k.isLt⟩ : Fin 40)) := by
  obtain ⟨R, h⟩ := R
  obtain rfl : R = q * 512 + r.val := hR
  rfl

/-- The row tile of equal numbers. -/
theorem rows_congr (a0 : Vec Ideal S8192x5120 .fp8e4m3) (a1 : Vec Ideal S8192x40 .f32) {p q : ℕ} (e : p = q)
    (hp : p < 16) (hq : q < 16) : rows a0 a1 p hp = rows a0 a1 q hq := by
  subst e; rfl

/-- What the first point of a row tile leaves in the scratch, of the argument arrays. -/
theorem A_eq (c : Dev nD) (t : Fin cfg0.N) (hq : t.val / 7 < 16) :
    ScratchA.A (iblk m c 0 t) (iblk m c 1 t) = rows (m ((c : Thread nD τ).loc main_arg0)) (m ((c : Thread nD τ).loc main_arg1)) (t.val / 7) hq := by
  funext y
  rw [eq_ix2 y]
  exact congrArg₂ (· * ·) (iblk0_apply m c t (y 0) (y 1) _ rfl) (iblk1_apply m c t (y 0) _ _ rfl)

/-- THE CARRIED SCRATCH: at every point it holds the dequantised rows of the point's row tile, filled by the tile's first
    point and kept by the later ones. -/
theorem carried (c : Dev nD) : ∀ (n : ℕ) (hn : n < cfg0.N) (hq : n / 7 < 16), (outsAt0 m c n hn).2 = rows (m ((c : Thread nD τ).loc main_arg0)) (m ((c : Thread nD τ).loc main_arg1)) (n / 7) hq := by
  intro n
  induction n with
  | zero =>
    intro hn hq
    rw [outsAt0_A m c ⟨0, hn⟩ (Nat.zero_mod 7)]
    dsimp only
    rw [ScratchA.sout_A]
    exact A_eq m c ⟨0, hn⟩ hq
  | succ n ih =>
    intro hn hq
    by_cases h0 : (n + 1) % 7 = 0
    · rw [outsAt0_A m c ⟨n + 1, hn⟩ h0]
      dsimp only
      rw [ScratchA.sout_A]
      exact A_eq m c ⟨n + 1, hn⟩ hq
    · rw [outsAt0_B m c ⟨n + 1, hn⟩ h0]
      have e : (n + 1) / 7 = n / 7 := by omega
      dsimp only [sout0_B_0]
      simp only [Nat.add_sub_cancel]
      exact (ih _ (by omega)).trans (rows_congr _ _ e.symm _ _)

/-- THE RESULT BLOCK of every point: the product of the row tile's dequantised rows with the point's dequantised weights,
    biased and gated. -/
theorem block (c : Dev nD) (t : Fin cfg0.N) (hq : t.val / 7 < 16) :
    (outsAt0 m c t.val t.isLt).1
      = k0_pay7 (rows (m ((c : Thread nD τ).loc main_arg0)) (m ((c : Thread nD τ).loc main_arg1)) (t.val / 7) hq) (ScratchW.W (iblk m c 2 t) (iblk m c 3 t) (grid0.coords t 1)) (iblk m c 4 t) (iblk m c 5 t) := by
  by_cases h0 : t.val % 7 = 0
  · rw [outsAt0_A m c t h0]
    dsimp only
    rw [Block.out_A, A_eq m c t hq]
  · rw [outsAt0_B m c t h0]
    dsimp only
    have e : (t.val - 1) / 7 = t.val / 7 := by omega
    rw [Block.out_B, carried m c (t.val - 1) _ (by omega), rows_congr _ _ e _ hq]

end Cert.Proof.Carried
end
-- ==== Proof.Spec.lean ====
module
public import Idealize.ShloMosaic.Lib.ValueIdx
public import Idealize.ShloMosaic.PureOps.Ideal
@[expose] public section
noncomputable section
namespace Cert.Proof
open Idealize.ShloMosaic Idealize.ShloMosaic.ValueIdx

/-- The index of a block of 128 a place lies in, bounded by the number of blocks. -/
theorem div128 {a b : ℕ} (k : Fin a) (h : a = b * 128) : k.val / 128 < b :=
  Nat.div_lt_of_lt_mul (by have := k.isLt; omega)

/-- THE VALUE both programs compute, over the extended reals, at row `r` and column `n`: the codes times their row
    scales, multiplied into the weight codes times their block scales, plus the bias, times the gate of the row's
    batch. -/
def Spec (a0 : (⟨2, ![8192, 5120]⟩ : Shape).Idx → EReal) (a1 : (⟨2, ![8192, 40]⟩ : Shape).Idx → EReal)
    (a2 : (⟨2, ![5120, 7168]⟩ : Shape).Idx → EReal) (a3 : (⟨2, ![40, 56]⟩ : Shape).Idx → EReal)
    (a4 : (⟨1, ![7168]⟩ : Shape).Idx → EReal) (a5 : (⟨2, ![8, 7168]⟩ : Shape).Idx → EReal)
    (r : Fin 8192) (n : Fin 7168) : EReal :=
  ((∑ k : Fin 5120, (a0 (ix2 r k) * a1 (ix2 r ⟨k.val / 128, div128 k rfl⟩))
      * (a2 (ix2 k n) * a3 (ix2 ⟨k.val / 128, div128 k rfl⟩ ⟨n.val / 128, div128 n rfl⟩)))
    + a4 (ix1 n)) * a5 (ix2 ⟨r.val / 1024, Nat.div_lt_of_lt_mul r.isLt⟩ n)

/-- The constant a product starts from is zero. -/
theorem ofBits_zero : (Ideal.ofBits .f32 0x00000000#32 : EReal) = 0 := by simp [Ideal.ofBits, Ideal.ieee]

end Cert.Proof
end
-- ==== Proof.Result.lean ====
module
public import proofs.«01_k».proof.Proof.Carried
public import proofs.«01_k».proof.Proof.Spec
public import proofs.«01_k».proof.Proof.Gen.KernelIdeal.Value
public import Idealize.ShloMosaic.Lib.MatmulPlain
public import Idealize.ShloMosaic.Lib.ValueLayout
@[expose] public section
noncomputable section
namespace Cert.Proof.Result
open Cert.KernelIdeal Cert.KernelIdeal.Gen Idealize.ShloMosaic Idealize.ShloMosaic.TcCoe Idealize.SL.Sem
open Idealize.ShloMosaic.Tactic Idealize.ShloMosaic.ValueIdx

/-- A point's product at a place of its block. -/
theorem dot_apply (a : Vec Ideal S512x5120 .bf16) (b : Vec Ideal S5120x1024 .bf16) (acc : Vec Ideal S512x1024 .f32)
    (r : Fin 512) (n : Fin 1024) :
    matmul (F := Ideal) (φ₁ := .bf16) (φ₂ := .bf16) dot_S512x5120_S5120x1024_S512x1024_1_0_0_1_n_n none a b acc (ix2 r n)
      = acc (ix2 r n) + ∑ k : Fin 5120, a (ix2 r k) * b (ix2 k n) :=
  Ideal.matmul_plain_apply none a b acc r n

/-- A row spread over a block's rows. -/
theorem row_apply (x : Vec Ideal S1x1024 .f32) (r : Fin 512) (n : Fin 1024) (h : S1x1024.Broadcasts S512x1024) :
    broadcastTo S512x1024 x h (ix2 r n) = x (ix2 (0 : Fin 1) n) :=
  broadcastTo_apply x h _ _ (by intro a; match a with | ⟨0, _⟩ => rfl | ⟨1, _⟩ => rfl)

set_option maxRecDepth 8192 in
/-- A point's written block at a place of it. -/
theorem pay_apply (a : Vec Ideal S512x5120 .bf16) (w : Vec Ideal S5120x1024 .bf16) (b : Vec Ideal S1x1024 .bf16)
    (g : Vec Ideal S1x1x1024 .bf16) (r : Fin 512) (n : Fin 1024) :
    (k0_pay7 a w b g (ix2 r n) : EReal)
      = ((∑ k : Fin 5120, (a (ix2 r k) * w (ix2 k n) : EReal)) + b (ix2 (0 : Fin 1) n))
        * g (ix3 (0 : Fin 1) (0 : Fin 1) n) := by
  unfold k0_pay7
  refine congrArg₂ (fun x y : EReal => x * y) ?_ ((row_apply _ r n _).trans (shapeCast_1ab_ab_apply g _ (0 : Fin 1) n))
  refine congrArg₂ (fun x y : EReal => x + y) ?_ ((row_apply _ r n _).trans (congrFun (shapeCast_self b _) _))
  refine (dot_apply a w _ r n).trans ?_
  exact (congrArg (· + _) ofBits_zero).trans (zero_add _)

variable (m : (ℓ : Loc nD τ sig) → Buf (Elt Ideal) ℓ)

/-- The weight's, the bias's and the gate's blocks at a point. -/
theorem index_col : ∀ t : Fin cfg0.N, win0_2.index t = ![0, t.val % 7] ∧ win0_3.index t = ![0, 0]
    ∧ win0_4.index t = ![0, t.val % 7] ∧ win0_5.index t = ![t.val / 7 * 512 / 1024, 0, t.val % 7]
    ∧ (grid0.coords t 1).val = t.val % 7 :=
  (by decide +kernel : ∀ t : Fin grid0.N, win0_2.index t = ![0, t.val % 7] ∧ win0_3.index t = ![0, 0]
    ∧ win0_4.index t = ![0, t.val % 7] ∧ win0_5.index t = ![t.val / 7 * 512 / 1024, 0, t.val % 7]
    ∧ (grid0.coords t 1).val = t.val % 7)

/-- The bias as the launch finds it: the argument laid out as one row. -/
theorem V_bias (c : Dev nD) (n : Fin 7168) :
    V m c main_v0 (ix2 (0 : Fin 1) n) = m ((c : Thread nD τ).loc main_arg4) (ix1 n) := by
  have h : V m c main_v0 = shapeCast S1x7168 (m ((c : Thread nD τ).loc main_arg4)) shapeCasts_S7168_S1x7168 := by
    show StableHlo.after hostOps0 _ (Proc.devRef .tc main_v0) = _
    unfold hostOps0
    rw [StableHlo.after_cons, StableHlo.after_cons, StableHlo.after_nil,
      StableHlo.reshape_result_ne' (h := (by decide : main_v0 ≠ main_v1)), StableHlo.reshape_result']
    rfl
  rw [h]
  exact shapeCast_a_1a_apply _ _ _ _

/-- The gate with a unit axis put in, at a place. -/
theorem gate_cast (x : Vec Ideal S8x7168 .bf16) (h : S8x7168.ShapeCasts S8x1x7168) (p : Fin 8) (n : Fin 7168) :
    shapeCast S8x1x7168 x h (ix3 p (0 : Fin 1) n) = x (ix2 p n) := by
  refine shapeCast_apply x h _ _ ?_
  rw [Shape.rowMajor_val_three, Shape.rowMajor_val_two]
  show p.val * 7168 + n.val = (p.val * 1 + 0) * 7168 + n.val
  omega

/-- The gate as the launch finds it: the argument with a unit axis put in. -/
theorem V_gate (c : Dev nD) (p : Fin 8) (n : Fin 7168) :
    V m c main_v1 (ix3 p (0 : Fin 1) n) = m ((c : Thread nD τ).loc main_arg5) (ix2 p n) := by
  have h : V m c main_v1 = shapeCast S8x1x7168 (m ((c : Thread nD τ).loc main_arg5)) shapeCasts_S8x7168_S8x1x7168 := by
    show StableHlo.after hostOps0 _ (Proc.devRef .tc main_v1) = _
    unfold hostOps0
    rw [StableHlo.after_cons, StableHlo.after_cons, StableHlo.after_nil, StableHlo.reshape_result',
      StableHlo.reshape_result_ne' (h := (by decide : main_arg5 ≠ main_v0))]
    rfl
  rw [h]
  exact gate_cast _ _ p n

/-- An element of the point's block of weight codes. -/
theorem iblk2_apply (c : Dev nD) (t : Fin cfg0.N) (k : Fin 5120) (n : Fin 1024) (N : Fin 7168)
    (hN : N.val = t.val % 7 * 1024 + n.val) :
    iblk m c 2 t (ix2 k n) = m ((c : Thread nD τ).loc main_arg2) (ix2 k N) := by
  show V m c main_arg2 (((cfg0.win 2).blk t).view.emb (ix2 k n)) = _
  rw [V_main_arg2]
  refine congrArg _ (funext fun a => ?_)
  obtain ⟨h, -⟩ := index_col t
  match a with
  | ⟨0, _⟩ =>
    apply Fin.ext
    show win0_2.index t 0 * 5120 + 1 * k.val = k.val
    rw [h]; show 0 * 5120 + 1 * k.val = _; omega
  | ⟨1, _⟩ =>
    apply Fin.ext
    show win0_2.index t 1 * 1024 + 1 * n.val = N.val
    rw [h, hN]; show t.val % 7 * 1024 + 1 * n.val = _; omega

/-- The point's table of weight scales is the argument. -/
theorem iblk3_apply (c : Dev nD) (t : Fin cfg0.N) (p : Fin 40) (q : Fin 56) :
    iblk m c 3 t (ix2 p q) = m ((c : Thread nD τ).loc main_arg3) (ix2 p q) := by
  show V m c main_arg3 (((cfg0.win 3).blk t).view.emb (ix2 p q)) = _
  rw [V_main_arg3]
  refine congrArg _ (funext fun a => ?_)
  obtain ⟨-, h, -⟩ := index_col t
  match a with
  | ⟨0, _⟩ =>
    apply Fin.ext
    show win0_3.index t 0 * 40 + 1 * p.val = p.val
    rw [h]; show 0 * 40 + 1 * p.val = _; omega
  | ⟨1, _⟩ =>
    apply Fin.ext
    show win0_3.index t 1 * 56 + 1 * q.val = q.val
    rw [h]; show 0 * 56 + 1 * q.val = _; omega

/-- An element of the point's block of the bias. -/
theorem iblk4_apply (c : Dev nD) (t : Fin cfg0.N) (n : Fin 1024) (N : Fin 7168)
    (hN : N.val = t.val % 7 * 1024 + n.val) :
    iblk m c 4 t (ix2 (0 : Fin 1) n) = m ((c : Thread nD τ).loc main_arg4) (ix1 N) := by
  refine Eq.trans ?_ (V_bias m c N)
  show V m c main_v0 (((cfg0.win 4).blk t).view.emb (ix2 (0 : Fin 1) n)) = _
  refine congrArg _ (funext fun a => ?_)
  obtain ⟨-, -, h, -⟩ := index_col t
  match a with
  | ⟨0, _⟩ =>
    apply Fin.ext
    show win0_4.index t 0 * 1 + 1 * 0 = 0
    rw [h]; rfl
  | ⟨1, _⟩ =>
    apply Fin.ext
    show win0_4.index t 1 * 1024 + 1 * n.val = N.val
    rw [h, hN]; show t.val % 7 * 1024 + 1 * n.val = _; omega

/-- An element of the point's block of the gate. -/
theorem iblk5_apply (c : Dev nD) (t : Fin cfg0.N) (n : Fin 1024) (N : Fin 7168) (p : Fin 8)
    (hN : N.val = t.val % 7 * 1024 + n.val) (hp : p.val = t.val / 7 * 512 / 1024) :
    iblk m c 5 t (ix3 (0 : Fin 1) (0 : Fin 1) n) = m ((c : Thread nD τ).loc main_arg5) (ix2 p N) := by
  refine Eq.trans ?_ (V_gate m c p N)
  show V m c main_v1 (((cfg0.win 5).blk t).view.emb (ix3 (0 : Fin 1) (0 : Fin 1) n)) = _
  refine congrArg _ (funext fun a => ?_)
  obtain ⟨-, -, -, h, -⟩ := index_col t
  match a with
  | ⟨0, _⟩ =>
    apply Fin.ext
    show win0_5.index t 0 * 1 + 1 * 0 = p.val
    rw [h, hp]; show t.val / 7 * 512 / 1024 * 1 + 1 * 0 = _; omega
  | ⟨1, _⟩ =>
    apply Fin.ext
    show win0_5.index t 1 * 1 + 1 * 0 = 0
    rw [h]; rfl
  | ⟨2, _⟩ =>
    apply Fin.ext
    show win0_5.index t 2 * 1024 + 1 * n.val = N.val
    rw [h, hN]; show t.val % 7 * 1024 + 1 * n.val = _; omega

/-- The dequantised weights at a place. -/
def weight (a2 : Vec Ideal S5120x7168 .fp8e4m3) (a3 : Vec Ideal S40x56 .f32) (k : Fin 5120) (N : Fin 7168) : EReal :=
  a2 (ix2 k N) * a3 (ix2 ⟨k.val / 128, div128 k rfl⟩ ⟨N.val / 128, div128 N rfl⟩)

/-- The dequantised weights of a point at a place of its block, of the argument arrays. -/
theorem W_apply (c : Dev nD) (t : Fin cfg0.N) (k : Fin 5120) (n : Fin 1024) (N : Fin 7168)
    (hN : N.val = t.val % 7 * 1024 + n.val) :
    (ScratchW.W (iblk m c 2 t) (iblk m c 3 t) (grid0.coords t 1) (ix2 k n) : EReal)
      = weight (m ((c : Thread nD τ).loc main_arg2)) (m ((c : Thread nD τ).loc main_arg3)) k N := by
  unfold ScratchW.W weight
  refine congrArg₂ (fun x y : EReal => x * y) (iblk2_apply m c t k n N hN) ?_
  refine (iblk3_apply m c t _ _).trans (congrArg _ (congrArg (ix2 _) (Fin.ext ?_)))
  obtain ⟨-, -, -, -, h⟩ := index_col t
  show 8 * (grid0.coords t 1).val + n.val / 128 = N.val / 128
  rw [h, hN]; omega

/-- A point's result block at a place of it is the stated value at the place's row and column of the result. -/
theorem block_apply (c : Dev nD) (t : Fin cfg0.N) (r : Fin 512) (n : Fin 1024) (R : Fin 8192) (N : Fin 7168)
    (hR : R.val = t.val / 7 * 512 + r.val) (hN : N.val = t.val % 7 * 1024 + n.val) :
    (outsAt0 m c t.val t.isLt).1 (ix2 r n)
      = Spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) R N := by
  have hq : t.val / 7 < 16 := by
    have := lt_of_lt_of_eq t.isLt (show cfg0.N = 112 from N_0)
    omega
  rw [Carried.block m c t hq]
  refine (pay_apply _ _ _ _ r n).trans ?_
  unfold Spec
  refine congrArg₂ (fun x y : EReal => x * y) (congrArg₂ (fun x y : EReal => x + y) (Finset.sum_congr rfl fun k _ =>
    congrArg₂ (fun x y : EReal => x * y) ?_ (W_apply m c t k n N hN)) (iblk4_apply m c t n N hN)) (iblk5_apply m c t n N _ hN ?_)
  · exact Carried.rows_apply _ _ _ hq r k R hR
  · show R.val / 1024 = t.val / 7 * 512 / 1024
    omega

/-- THE KERNEL'S RESULT at row `R`, column `N`, is the value stated in `Spec`. -/
theorem value (c : Dev nD) (R : Fin 8192) (N : Fin 7168) :
    Value.G6 m c (ix2 R N)
      = Spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) R N := by
  have e : Value.pt6Of (ix2 R N) = R.val / 512 * 7 + N.val / 1024 := by
    show 7 * (R.val / 512 - 0) + 1 * (N.val / 1024 - 0) = _
    omega
  have hR := R.isLt
  have hN := N.isLt
  have h : Value.pt6Of (ix2 R N) < cfg0.N := by
    rw [e, show cfg0.N = 112 from N_0]; omega
  unfold Value.G6
  rw [dif_pos h, ← Value.outsAt0_sweep m c _ h]
  have hl : Value.loc6Of (ix2 R N) = ix2 (⟨R.val % 512, Nat.mod_lt _ (by decide)⟩ : Fin 512)
      (⟨N.val % 1024, Nat.mod_lt _ (by decide)⟩ : Fin 1024) :=
    funext fun a => match a with | ⟨0, _⟩ => rfl | ⟨1, _⟩ => rfl
  rw [hl]
  refine block_apply m c ⟨_, h⟩ (⟨R.val % 512, Nat.mod_lt _ (by decide)⟩ : Fin 512) (⟨N.val % 1024, Nat.mod_lt _ (by decide)⟩ : Fin 1024) R N ?_ ?_
  · show R.val = Value.pt6Of (ix2 R N) / 7 * 512 + R.val % 512
    rw [e]; omega
  · show N.val = Value.pt6Of (ix2 R N) % 7 * 1024 + N.val % 1024
    rw [e]; omega

end Cert.Proof.Result
end
-- ==== Proof.Reference.lean ====
module
public import proofs.«01_k».proof.Proof.Spec
public import proofs.«01_k».proof.Proof.Gen.ReferenceIdeal.Value
public import Idealize.ShloMosaic.Lib.MatmulPlain
public import Idealize.ShloMosaic.Lib.ValueLayout
@[expose] public section
noncomputable section
namespace Cert.Proof.Reference
open Cert.ReferenceIdeal Cert.ReferenceIdeal.Gen Idealize.ShloMosaic Idealize.ShloMosaic.TcCoe Idealize.SL.Sem
open Idealize.ShloMosaic.Tactic Idealize.ShloMosaic.ValueIdx

/-- The reference's dequantised activations at row `r`, place `k`. -/
theorem lhs_apply (a0 : Vec Ideal S8192x5120 .bf16) (a1 : Vec Ideal S8192x40 .bf16) (r : Fin 8192) (k : Fin 5120)
    (h0 : S8192x5120.ShapeCasts S8192x40x128) (h1 : S8192x40.ShapeCasts S8192x40x1) (h2 : S8192x40x1.Broadcasts S8192x40x128)
    (h3 : S8192x40x128.ShapeCasts S8192x5120) :
    shapeCast S8192x5120 (mulf (F := Ideal) (φ := .bf16) (shapeCast S8192x40x128 a0 h0)
      (broadcastTo S8192x40x128 (shapeCast S8192x40x1 a1 h1) h2)) h3 (ix2 r k)
      = a0 (ix2 r k) * a1 (ix2 r ⟨k.val / 128, div128 k rfl⟩) := by
  refine (shapeCast_apply _ h3 (ix2 r k) (ix3 r (⟨k.val / 128, div128 k rfl⟩ : Fin 40) (⟨k.val % 128, Nat.mod_lt _ (by decide)⟩ : Fin 128)) ?_).trans ?_
  · rw [Shape.rowMajor_val_three, Shape.rowMajor_val_two]
    show (r.val * 40 + k.val / 128) * 128 + k.val % 128 = r.val * 5120 + k.val
    omega
  refine congrArg₂ (· * ·) ?_ ?_
  · refine shapeCast_apply a0 h0 _ (ix2 r k) ?_
    rw [Shape.rowMajor_val_three, Shape.rowMajor_val_two]
    show r.val * 5120 + k.val = (r.val * 40 + k.val / 128) * 128 + k.val % 128
    omega
  · refine (broadcastTo_apply _ h2 _ (ix3 r (⟨k.val / 128, div128 k rfl⟩ : Fin 40) (0 : Fin 1)) (by
      intro a; match a with | ⟨0, _⟩ => rfl | ⟨1, _⟩ => rfl | ⟨2, _⟩ => rfl)).trans ?_
    refine shapeCast_apply a1 h1 _ _ ?_
    rw [Shape.rowMajor_val_three, Shape.rowMajor_val_two]
    show r.val * 40 + k.val / 128 = (r.val * 40 + k.val / 128) * 1 + 0
    omega

/-- The reference's dequantised weights at place `k`, column `n`. -/
theorem rhs_apply (a2 : Vec Ideal S5120x7168 .bf16) (a3 : Vec Ideal S40x56 .bf16) (k : Fin 5120) (n : Fin 7168)
    (h0 : S5120x7168.ShapeCasts S40x128x56x128) (h1 : S40x56.ShapeCasts S40x1x56x1) (h2 : S40x1x56x1.Broadcasts S40x128x56x128)
    (h3 : S40x128x56x128.ShapeCasts S5120x7168) :
    shapeCast S5120x7168 (mulf (F := Ideal) (φ := .bf16) (shapeCast S40x128x56x128 a2 h0)
      (broadcastTo S40x128x56x128 (shapeCast S40x1x56x1 a3 h1) h2)) h3 (ix2 k n)
      = a2 (ix2 k n) * a3 (ix2 ⟨k.val / 128, div128 k rfl⟩ ⟨n.val / 128, div128 n rfl⟩) := by
  refine (shapeCast_apply _ h3 (ix2 k n) (ix4 (⟨k.val / 128, div128 k rfl⟩ : Fin 40) (⟨k.val % 128, Nat.mod_lt _ (by decide)⟩ : Fin 128)
    (⟨n.val / 128, div128 n rfl⟩ : Fin 56) (⟨n.val % 128, Nat.mod_lt _ (by decide)⟩ : Fin 128)) ?_).trans ?_
  · rw [Shape.rowMajor_val_four, Shape.rowMajor_val_two]
    show ((k.val / 128 * 128 + k.val % 128) * 56 + n.val / 128) * 128 + n.val % 128 = k.val * 7168 + n.val
    omega
  refine congrArg₂ (· * ·) ?_ ?_
  · refine shapeCast_apply a2 h0 _ (ix2 k n) ?_
    rw [Shape.rowMajor_val_four, Shape.rowMajor_val_two]
    show k.val * 7168 + n.val = ((k.val / 128 * 128 + k.val % 128) * 56 + n.val / 128) * 128 + n.val % 128
    omega
  · refine (broadcastTo_apply _ h2 _ (ix4 (⟨k.val / 128, div128 k rfl⟩ : Fin 40) (0 : Fin 1) (⟨n.val / 128, div128 n rfl⟩ : Fin 56) (0 : Fin 1)) (by
      intro a; match a with | ⟨0, _⟩ => rfl | ⟨1, _⟩ => rfl | ⟨2, _⟩ => rfl | ⟨3, _⟩ => rfl)).trans ?_
    refine shapeCast_apply a3 h1 _ _ ?_
    rw [Shape.rowMajor_val_four, Shape.rowMajor_val_two]
    show k.val / 128 * 56 + n.val / 128 = ((k.val / 128 * 1 + 0) * 56 + n.val / 128) * 1 + 0
    omega

/-- The reference's product at row `r`, column `n`. -/
theorem dot_apply (a : Vec Ideal S8192x5120 .bf16) (b : Vec Ideal S5120x7168 .bf16) (acc : Vec Ideal S8192x7168 .f32)
    (r : Fin 8192) (n : Fin 7168) :
    matmul (F := Ideal) (φ₁ := .bf16) (φ₂ := .bf16) dot_S8192x5120_S5120x7168_S8192x7168_1_0_0_1_n_n none a b acc (ix2 r n)
      = acc (ix2 r n) + ∑ k : Fin 5120, a (ix2 r k) * b (ix2 k n) :=
  Ideal.matmul_plain_apply none a b acc r n

/-- The reference's bias row, spread over the rows. -/
theorem bias_apply (a4 : Vec Ideal S7168 .f32) (r : Fin 8192) (n : Fin 7168)
    (h0 : S7168.ShapeCasts S1x7168) (h1 : S1x7168.Broadcasts S8192x7168) :
    broadcastTo S8192x7168 (shapeCast S1x7168 a4 h0) h1 (ix2 r n) = a4 (ix1 n) := by
  refine (broadcastTo_apply _ h1 _ (ix2 (0 : Fin 1) n) (by
    intro a; match a with | ⟨0, _⟩ => rfl | ⟨1, _⟩ => rfl)).trans ?_
  exact shapeCast_a_1a_apply a4 h0 0 n

/-- The reference's gate, spread over a batch's rows. -/
theorem gate_apply (a5 : Vec Ideal S8x7168 .f32) (p : Fin 8) (q : Fin 1024) (n : Fin 7168)
    (h0 : S8x7168.ShapeCasts S8x1x7168) (h1 : S8x1x7168.Broadcasts S8x1024x7168) :
    broadcastTo S8x1024x7168 (shapeCast S8x1x7168 a5 h0) h1 (ix3 p q n) = a5 (ix2 p n) := by
  refine (broadcastTo_apply _ h1 _ (ix3 p (0 : Fin 1) n) (by
    intro a; match a with | ⟨0, _⟩ => rfl | ⟨1, _⟩ => rfl | ⟨2, _⟩ => rfl)).trans ?_
  refine shapeCast_apply a5 h0 _ _ ?_
  rw [Shape.rowMajor_val_three, Shape.rowMajor_val_two]
  show p.val * 7168 + n.val = (p.val * 1 + 0) * 7168 + n.val
  omega

set_option maxRecDepth 8192 in
/-- THE REFERENCE at row `r`, column `n`, is the value stated in `Spec`. -/
theorem value (a0 : Vec Ideal S8192x5120 .fp8e4m3) (a1 : Vec Ideal S8192x40 .f32) (a2 : Vec Ideal S5120x7168 .fp8e4m3)
    (a3 : Vec Ideal S40x56 .f32) (a4 : Vec Ideal S7168 .bf16) (a5 : Vec Ideal S8x7168 .bf16) (r : Fin 8192) (n : Fin 7168) :
    k0_pay1 a0 a1 a2 a3 a4 a5 (ix2 r n) = Spec a0 a1 a2 a3 a4 a5 r n := by
  unfold k0_pay1 Spec
  refine (shapeCast_apply _ _ (ix2 r n) (ix3 (⟨r.val / 1024, Nat.div_lt_of_lt_mul r.isLt⟩ : Fin 8)
    (⟨r.val % 1024, Nat.mod_lt _ (by decide)⟩ : Fin 1024) n) ?_).trans ?_
  · rw [Shape.rowMajor_val_three, Shape.rowMajor_val_two]
    show (r.val / 1024 * 1024 + r.val % 1024) * 7168 + n.val = r.val * 7168 + n.val
    omega
  refine congrArg₂ (fun x y : EReal => x * y) ?_ ((gate_apply _ _ _ n _ _).trans rfl)
  refine (shapeCast_apply _ _ _ (ix2 r n) ?_).trans ?_
  · rw [Shape.rowMajor_val_three, Shape.rowMajor_val_two]
    show r.val * 7168 + n.val = (r.val / 1024 * 1024 + r.val % 1024) * 7168 + n.val
    omega
  refine congrArg₂ (fun x y : EReal => x + y) ?_ ((bias_apply _ r n _ _).trans rfl)
  refine (dot_apply _ _ _ r n).trans ?_
  refine (congrArg₂ (· + ·) ofBits_zero (Finset.sum_congr rfl fun k _ =>
    congrArg₂ (· * ·) ((lhs_apply _ _ r k _ _ _ _).trans rfl) ((rhs_apply _ _ k n _ _ _ _).trans rfl))).trans (zero_add _)

end Cert.Proof.Reference
end
-- ==== Proof.QuantPieces.lean ====
module
public import proofs.«01_k».proof.Proof.Gen.QuantIdeal.Value
public import Idealize.ShloMosaic.PureOps.Ideal
@[expose] public section
noncomputable section
namespace Cert.Proof.QuantPieces
open Cert.QuantIdeal Cert.QuantIdeal.Gen Idealize.ShloMosaic Idealize.ShloMosaic.TcCoe Idealize.SL.Sem

variable {F : FTy → Type} [FloatOps F] [Named F]

/-- A group's columns lie in the block, at any of its 32-row blocks. -/
theorem inbX (r g : ℕ) (hr : r + 32 ≤ 256) : ∀ a, (![r, 128 * (g % 40)] : Fin 2 → ℕ) a + S32x128.size a ≤ S256x5120.size a := fun a =>
  match a with
  | ⟨0, _⟩ => hr
  | ⟨1, _⟩ => by show 128 * (g % 40) + 128 ≤ 5120; have := Nat.mod_lt g (show 0 < 40 by decide); omega

/-- A group's columns lie in the row of a batch. -/
theorem inbS (g : ℕ) : ∀ a, (![0, 0, 128 * (g % 40)] : Fin 3 → ℕ) a + S1x1x128.size a ≤ S1x1x5120.size a := fun a =>
  match a with
  | ⟨0, _⟩ => le_refl 1
  | ⟨1, _⟩ => le_refl 1
  | ⟨2, _⟩ => by show 128 * (g % 40) + 128 ≤ 5120; have := Nat.mod_lt g (show 0 < 40 by decide); omega

/-- Group `g` of the 32 rows from row `r`. -/
def X (x : Vec F S256x5120 .bf16) (r : ℕ) (hr : r + 32 ≤ 256) (g : ℕ) : Vec F S32x128 .bf16 :=
  View.ld x (Rect.unit (s := S256x5120) ![r, 128 * (g % 40)] S32x128.size (inbX r g hr))

/-- Group `g` of a batch's row. -/
def Y (x : Vec F S1x1x5120 .bf16) (g : ℕ) : Vec F S1x1x128 .bf16 :=
  View.ld x (Rect.unit (s := S1x1x5120) ![0, 0, 128 * (g % 40)] S1x1x128.size (inbS g))

/-- A group as f32. -/
def E (v : Vec F S32x128 .bf16) : FVec F S32x128 .f32 :=
  extf .f32 (shapeCast S32x128 v shapeCasts_S32x128_S32x128) bitsLt_bf16_f32

/-- The sum of groups `0 … n`, lane by lane. -/
def lanes (v : ℕ → Vec F S32x128 .bf16) (n : ℕ) : FVec F S32x128 .f32 :=
  Nat.rec (E (v 0)) (fun n s => addf s (E (v (n + 1)))) n

/-- A lane-wise sum summed over the lanes, over the length of a row. -/
def rowMean (s : FVec F S32x128 .f32) : FVec F S32x1 .f32 :=
  mulf (shapeCast S32x1 (multiReduction .add [1] S32 s 0x00000000#32 reduces_S32x128_S32 (.inl rfl) rfl) shapeCasts_S32_S32x1)
    (broadcast S32x1 (Named.named κ "inv_d" 0x394CCCCD#32))

/-- The rows' means. -/
def mean (v : ℕ → Vec F S32x128 .bf16) : FVec F S32x1 .f32 := rowMean (lanes v 39)

/-- A group less the rows' means `m`. -/
def centred (v : Vec F S32x128 .bf16) (m : FVec F S32x1 .f32) : FVec F S32x128 .f32 :=
  subf (E v) (broadcastTo S32x128 m broadcasts_S32x1_S32x128)

/-- The squares of groups `0 … n - 1` less the means, summed lane by lane. -/
def squares (v : ℕ → Vec F S32x128 .bf16) (m : FVec F S32x1 .f32) (n : ℕ) : FVec F S32x128 .f32 :=
  Nat.rec (broadcast S32x128 (Scalar.ofBits .f32 0x00000000#32))
    (fun n s => addf s (mulf (centred (v n) m) (centred (v n) m))) n

/-- The rows' inverse standard deviations. -/
def rstd (v : ℕ → Vec F S32x128 .bf16) (m : FVec F S32x1 .f32) : FVec F S32x1 .f32 :=
  rsqrt (addf (rowMean (squares v m 40)) (broadcast S32x1 (Scalar.ofBits .f32 0x358637BD#32)))

/-- A group normalised and modulated. -/
def act (v : Vec F S32x128 .bf16) (m d : FVec F S32x1 .f32) (s t : Vec F S1x1x128 .bf16) : FVec F S32x128 .f32 :=
  addf (mulf (mulf (centred v m) (broadcastTo S32x128 d broadcasts_S32x1_S32x128))
      (broadcastTo S32x128 (addf (broadcast S1x128 (Scalar.ofBits .f32 0x3F800000#32))
        (extf .f32 (shapeCast S1x128 s shapeCasts_S1x1x128_S1x128) bitsLt_bf16_f32)) broadcasts_S1x128_S32x128))
    (broadcastTo S32x128 (extf .f32 (shapeCast S1x128 t shapeCasts_S1x1x128_S1x128) bitsLt_bf16_f32) broadcasts_S1x128_S32x128)

/-- The greatest magnitude of each row of a group, over the greatest code, on every lane. -/
def amax (h : FVec F S32x128 .f32) : FVec F S32x128 .f32 :=
  mulf (broadcastTo S32x128 (shapeCast S32x1 (shapeCast S32x1 (multiReduction .maximumf [1] S32 (absf h) 0xFF800000#32 reduces_S32x128_S32 (.inl rfl) rfl)
      shapeCasts_S32_S32x1) shapeCasts_S32x1_S32x1) broadcasts_S32x1_S32x128)
    (broadcast S32x128 (Scalar.ofBits .f32 0x3B124925#32))

/-- The exponent of the power of two of an amount. -/
def expo (v : FVec F S32x128 .f32) : FVec F S32x128 .f32 :=
  select (cmpf .oeq v (broadcast S32x128 (Scalar.ofBits .f32 0x00000000#32))) (broadcast S32x128 (Scalar.ofBits .f32 0x00000000#32))
    (addf (floor (mulf (log v) (broadcast S32x128 (Named.named κ "inv_ln2" 0x3FB8AA3B#32))))
      (broadcast S32x128 (Scalar.ofBits .f32 0x3F800000#32)))

/-- The codes of a group. -/
def code (h : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf h (exp2 (subf (broadcast S32x128 (Scalar.ofBits .f32 0x00000000#32)) (expo (amax h))))))) bitsLt_fp8e4m3_f32

/-- The modulated group `g` of 32 rows. -/
def rows (x : Vec F S256x5120 .bf16) (s t : Vec F S1x1x5120 .bf16) (r : ℕ) (hr : r + 32 ≤ 256) (g : ℕ) : FVec F S32x128 .f32 :=
  act (X x r hr g) (mean (X x r hr)) (rstd (X x r hr) (mean (X x r hr))) (Y s g) (Y t g)

/-- The table of scales after groups `0 … n - 1` have been put in, each in its column. -/
def scales (h : ℕ → FVec F S32x128 .f32) (n : ℕ) : FVec F S32x40 .f32 :=
  Nat.rec (broadcast S32x40 (Scalar.ofBits .f32 0x00000000#32))
    (fun n z => select (cmpi .eq (iota .tc S32x40 32 [1] iota_S32x40_d1_w32) (broadcast S32x40 (BitVec.ofNat 32 n)))
      (extractStridedSlice S32x40 ![0, 0] (exp2 (expo (amax (h n)))) slices_S32x128_o0_0_S32x40) z) n

/-- The row a block of 32 rows starts at. -/
theorem inbR (n : ℕ) : 32 * (n % 8) + 32 ≤ 256 := by have := Nat.mod_lt n (show 0 < 8 by decide); omega

/-- The scales' columns lie in the block of scales. -/
theorem inbZ (n : ℕ) : ∀ a, (![32 * (n % 8), 0] : Fin 2 → ℕ) a + S32x40.size a ≤ S256x40.size a := fun a =>
  match a with
  | ⟨0, _⟩ => inbR n
  | ⟨1, _⟩ => le_refl 40

/-- The piece of codes of group `g` of block `n` of 32 rows. -/
def codePiece (x : Vec F S256x5120 .bf16) (s t : Vec F S1x1x5120 .bf16) (n g : ℕ) : View.Piece (Elt F) S256x5120 .fp8e4m3 :=
  ⟨Rect.unit (s := S256x5120) ![32 * (n % 8), 128 * (g % 40)] S32x128.size (inbX _ g (inbR n)), code (rows x s t _ (inbR n) g)⟩

/-- The pieces of the first `g` groups of block `n`, the last first. -/
def codePieces (x : Vec F S256x5120 .bf16) (s t : Vec F S1x1x5120 .bf16) (n : ℕ) (L : List (View.Piece (Elt F) S256x5120 .fp8e4m3)) (g : ℕ) :
    List (View.Piece (Elt F) S256x5120 .fp8e4m3) :=
  Nat.rec L (fun g L => codePiece x s t n g :: L) g

/-- The pieces of the first `n` blocks of 32 rows, the last first. -/
def codesOf (x : Vec F S256x5120 .bf16) (s t : Vec F S1x1x5120 .bf16) (n : ℕ) : List (View.Piece (Elt F) S256x5120 .fp8e4m3) :=
  Nat.rec [] (fun n L => codePieces x s t n L 40) n

/-- The piece of scales of block `n` of 32 rows. -/
def scalePiece (x : Vec F S256x5120 .bf16) (s t : Vec F S1x1x5120 .bf16) (n : ℕ) : View.Piece (Elt F) S256x40 .f32 :=
  ⟨Rect.unit (s := S256x40) ![32 * (n % 8), 0] S32x40.size (inbZ n), scales (rows x s t _ (inbR n)) 40⟩

/-- The pieces of scales of the first `n` blocks of 32 rows, the last first. -/
def scalesOf (x : Vec F S256x5120 .bf16) (s t : Vec F S1x1x5120 .bf16) (n : ℕ) : List (View.Piece (Elt F) S256x40 .f32) :=
  Nat.rec [] (fun n L => scalePiece x s t n :: L) n

end Cert.Proof.QuantPieces
end
-- ==== Proof.QuantRun.lean ====
module
public import proofs.«01_k».proof.Proof.QuantPieces
@[expose] public section
noncomputable section
namespace Cert.Proof.QuantRun
open Cert.QuantIdeal Cert.QuantIdeal.Gen Idealize.ShloMosaic Idealize.ShloMosaic.TcCoe Idealize.SL.Sem
open Idealize.ShloMosaic.Tactic Cert.Proof.QuantPieces

variable {F : FTy → Type} [FloatOps F] [Named F]

/-- The pieces of scales the kernel's run leaves are those of the eight blocks of 32 rows. -/
theorem scales_eq (c : Dev nD) (i : grid0.Coords) (arg1 : Memref sig .tc .vmem S256x5120 .bf16) (harg1 : arg1.IsWhole) (arg2 : Memref sig .tc .vmem S1x1x5120 .bf16) (harg2 : arg2.IsWhole) (arg3 : Memref sig .tc .vmem S1x1x5120 .bf16) (harg3 : arg3.IsWhole) (arg4 : Memref sig .tc .vmem S256x5120 .fp8e4m3) (harg4 : arg4.IsWhole) (arg5 : Memref sig .tc .vmem S256x40 .f32) (harg5 : arg5.IsWhole) (arg6 : Memref sig .tc .vmem S32x5120 .f32) (harg6 : arg6.IsWhole)
    (x0 : Vec F S256x5120 .bf16) (x1 : Vec F S1x1x5120 .bf16) (x2 : Vec F S1x1x5120 .bf16) :
    (kernelRun0_A c i arg1 harg1 arg2 harg2 arg3 harg3 arg4 harg4 arg5 harg5 arg6 harg6 x0 x1 x2).2.1
      = scalesOf (arg1.view.read (Elt F) (harg1.unread x0)) (arg2.view.read (Elt F) (harg2.unread x1)) (arg3.view.read (Elt F) (harg3.unread x2)) 8 := by
  sl_kernel_rfl

/-- The pieces of codes the kernel's run leaves are those of the eight blocks of 32 rows. -/
theorem codes_eq (c : Dev nD) (i : grid0.Coords) (arg1 : Memref sig .tc .vmem S256x5120 .bf16) (harg1 : arg1.IsWhole) (arg2 : Memref sig .tc .vmem S1x1x5120 .bf16) (harg2 : arg2.IsWhole) (arg3 : Memref sig .tc .vmem S1x1x5120 .bf16) (harg3 : arg3.IsWhole) (arg4 : Memref sig .tc .vmem S256x5120 .fp8e4m3) (harg4 : arg4.IsWhole) (arg5 : Memref sig .tc .vmem S256x40 .f32) (harg5 : arg5.IsWhole) (arg6 : Memref sig .tc .vmem S32x5120 .f32) (harg6 : arg6.IsWhole)
    (x0 : Vec F S256x5120 .bf16) (x1 : Vec F S1x1x5120 .bf16) (x2 : Vec F S1x1x5120 .bf16) :
    (kernelRun0_A c i arg1 harg1 arg2 harg2 arg3 harg3 arg4 harg4 arg5 harg5 arg6 harg6 x0 x1 x2).1
      = codesOf (arg1.view.read (Elt F) (harg1.unread x0)) (arg2.view.read (Elt F) (harg2.unread x1)) (arg3.view.read (Elt F) (harg3.unread x2)) 8 := by
  sl_kernel_rfl

end Cert.Proof.QuantRun
end
-- ==== Proof.QuantSpec.lean ====
module
public import Idealize.ShloMosaic.Lib.ValueIdx
public import Idealize.ShloMosaic.PureOps.Ideal
@[expose] public section
noncomputable section
namespace Cert.Proof.QuantSpec
open Idealize.ShloMosaic Idealize.ShloMosaic.ValueIdx

/-- One over the length of a row, exactly. -/
def invD : EReal := ((1 / 5120 : ℝ) : EReal)

/-- One over the natural logarithm of two, exactly. -/
def invLn2 : EReal := (((Real.log 2)⁻¹ : ℝ) : EReal)

/-- The mean of a row. -/
def mean (x : Fin 5120 → EReal) : EReal := (∑ k, x k) * invD

/-- One over the row's standard deviation, with the small constant under the root. -/
def rstd (x : Fin 5120 → EReal) : EReal :=
  Ideal.rsqrt ((∑ k, (x k - mean x) * (x k - mean x)) * invD + Ideal.ofBits .f32 0x358637BD#32)

/-- The normalised row, modulated by the scale `s` and the shift `t` of its batch. -/
def act (x s t : Fin 5120 → EReal) (k : Fin 5120) : EReal :=
  (x k - mean x) * rstd x * (Ideal.ofBits .f32 0x3F800000#32 + s k) + t k

/-- Place `j` of group `g` of 128 places of a row. -/
def place (g : Fin 40) (j : Fin 128) : Fin 5120 := ⟨128 * g.val + j.val, by have := g.isLt; have := j.isLt; omega⟩

/-- The group a place of a row lies in. -/
def group (k : Fin 5120) : Fin 40 := ⟨k.val / 128, Nat.div_lt_of_lt_mul k.isLt⟩

/-- The greatest magnitude of 128 values. -/
def top (f : Fin 128 → EReal) : EReal :=
  (Finset.univ : Finset (Fin 128)).fold max (Ideal.ofBits .f32 0xFF800000#32) (fun j => max (f j) (-(f j)))

/-- The greatest magnitude of a group, over the greatest code. -/
def amax (h : Fin 5120 → EReal) (g : Fin 40) : EReal := top (fun j => h (place g j)) * Ideal.ofBits .f32 0x3B124925#32

/-- The exponent of the power of two that scales a group whose amount is `v`: nought for a group of noughts, else one
    more than the whole part of the binary logarithm. -/
def expo (v : EReal) : EReal :=
  Scalar.select (Ideal.cmp .oeq v (Ideal.ofBits .f32 0x00000000#32)) (Ideal.ofBits .f32 0x00000000#32)
    (Ideal.liftRound Int.floor (Ideal.log v * invLn2) + Ideal.ofBits .f32 0x3F800000#32)

/-- THE SCALE of a group: the power of two. -/
def scale (h : Fin 5120 → EReal) (g : Fin 40) : EReal := Ideal.exp2 (expo (amax h g))

/-- THE CODE of a place: the value over its group's scale, clipped to the codes' range. -/
def code (h : Fin 5120 → EReal) (k : Fin 5120) : EReal :=
  min (Ideal.ofBits .f32 0x43E00000#32) (max (Ideal.ofBits .f32 0xC3E00000#32)
    (h k * Ideal.exp2 (Ideal.ofBits .f32 0x00000000#32 - expo (amax h (group k)))))

/-- The batch of a row of the flattened array, and the row in it. -/
def batch (R : Fin 8192) : Fin 8 := ⟨R.val / 1024, Nat.div_lt_of_lt_mul R.isLt⟩

/-- The row of its batch. -/
def within (R : Fin 8192) : Fin 1024 := ⟨R.val % 1024, Nat.mod_lt _ (by decide)⟩

/-- The modulated row `R` of the three argument arrays. -/
def row (a0 : (⟨3, ![8, 1024, 5120]⟩ : Shape).Idx → EReal) (a1 a2 : (⟨2, ![8, 5120]⟩ : Shape).Idx → EReal) (R : Fin 8192) :
    Fin 5120 → EReal :=
  act (fun k => a0 (ix3 (batch R) (within R) k)) (fun k => a2 (ix2 (batch R) k)) (fun k => a1 (ix2 (batch R) k))

/-- A place is the place of its group it is. -/
theorem place_group (k : Fin 5120) : place (group k) ⟨k.val % 128, Nat.mod_lt _ (by decide)⟩ = k :=
  Fin.ext (show 128 * (k.val / 128) + k.val % 128 = k.val by omega)

/-- The group of a place of a group. -/
theorem group_place (g : Fin 40) (j : Fin 128) : group (place g j) = g :=
  Fin.ext (show (128 * g.val + j.val) / 128 = g.val by have := j.isLt; omega)

/-- A row summed lane by lane, each lane over the forty groups, is the row summed. -/
theorem sum_lanes (f : Fin 5120 → EReal) : ∑ j : Fin 128, ∑ g : Fin 40, f (place g j) = ∑ k, f k := by
  rw [Finset.sum_comm, ← Fintype.sum_prod_type']
  refine Fintype.sum_bijective (fun p : Fin 40 × Fin 128 => place p.1 p.2) ⟨?_, ?_⟩ _ _ (fun _ => rfl)
  · rintro ⟨g, j⟩ ⟨g', j'⟩ e
    have e : 128 * g.val + j.val = 128 * g'.val + j'.val := congrArg Fin.val e
    have := j.isLt
    have := j'.isLt
    exact Prod.ext (Fin.ext (by show g.val = g'.val; omega)) (Fin.ext (by show j.val = j'.val; omega))
  · exact fun k => ⟨(group k, ⟨k.val % 128, Nat.mod_lt _ (by decide)⟩), place_group k⟩

end Cert.Proof.QuantSpec
end
-- ==== Proof.QuantValue.lean ====
module
public import proofs.«01_k».proof.Proof.QuantPieces
public import proofs.«01_k».proof.Proof.QuantSpec
public import Idealize.ShloMosaic.Lib.ValueLayout
public import Idealize.ShloMosaic.Lib.ValueLayoutCasts
public import Idealize.ShloMosaic.Lib.WordCmp
public import Idealize.ShloMosaic.PureOps.Ideal.Laws
@[expose] public section
noncomputable section
namespace Cert.Proof.QuantValue
open Cert.QuantIdeal Cert.QuantIdeal.Gen Idealize.ShloMosaic Idealize.ShloMosaic.TcCoe Idealize.SL.Sem
open Idealize.ShloMosaic.ValueIdx Cert.Proof.QuantPieces

/-- Group `g` of the rows from `r`, at row `a`, lane `j`. -/
theorem X_apply (x : Vec Ideal S256x5120 .bf16) (r : ℕ) (hr : r + 32 ≤ 256) (g : Fin 40) (a : Fin 32) (j : Fin 128) :
    E (F := Ideal) (X x r hr g.val) (ix2 a j) = x (ix2 ⟨r + a.val, by have := a.isLt; omega⟩ (QuantSpec.place g j)) := by
  unfold E
  rw [shapeCast_self]
  refine congrArg x (funext fun d => Fin.ext ?_)
  match d with
  | ⟨0, _⟩ => show r + 1 * a.val = r + a.val; omega
  | ⟨1, _⟩ =>
    show 128 * (g.val % 40) + 1 * j.val = 128 * g.val + j.val
    rw [Nat.mod_eq_of_lt g.isLt]; omega

/-- Group `g` of a batch's row, at lane `j`. -/
theorem Y_apply (x : Vec Ideal S1x1x5120 .bf16) (g : Fin 40) (j : Fin 128) :
    shapeCast S1x128 (Y (F := Ideal) x g.val) shapeCasts_S1x1x128_S1x128 (ix2 (0 : Fin 1) j) = x (ix3 (0 : Fin 1) (0 : Fin 1) (QuantSpec.place g j)) := by
  refine (shapeCast_1ab_ab_apply (Y (F := Ideal) x g.val) shapeCasts_S1x1x128_S1x128 (0 : Fin 1) j).trans ?_
  refine congrArg x (funext fun d => Fin.ext ?_)
  match d with
  | ⟨0, _⟩ => rfl
  | ⟨1, _⟩ => rfl
  | ⟨2, _⟩ =>
    show 128 * (g.val % 40) + 1 * j.val = 128 * g.val + j.val
    rw [Nat.mod_eq_of_lt g.isLt]; omega

/-- A column spread over the lanes. -/
theorem spread_col (m : FVec Ideal S32x1 .f32) (a : Fin 32) (j : Fin 128) :
    broadcastTo S32x128 m broadcasts_S32x1_S32x128 (ix2 a j) = m (ix2 a (0 : Fin 1)) :=
  broadcastTo_apply m _ _ (ix2 a (0 : Fin 1)) (by intro d; match d with | ⟨0, _⟩ => rfl | ⟨1, _⟩ => rfl)

/-- A row of lanes spread over the rows. -/
theorem spread_row (m : FVec Ideal S1x128 .f32) (a : Fin 32) (j : Fin 128) :
    broadcastTo S32x128 m broadcasts_S1x128_S32x128 (ix2 a j) = m (ix2 (0 : Fin 1) j) :=
  broadcastTo_apply m _ _ (ix2 (0 : Fin 1) j) (by intro d; match d with | ⟨0, _⟩ => rfl | ⟨1, _⟩ => rfl)

/-- The lane-wise sum of groups `0 … n`. -/
theorem lanes_apply (v : ℕ → Vec Ideal S32x128 .bf16) (i : S32x128.Idx) : ∀ n, lanes (F := Ideal) v n i = ∑ g ∈ Finset.range (n + 1), E (F := Ideal) (v g) i
  | 0 => (Finset.sum_range_one (fun g => E (F := Ideal) (v g) i)).symm
  | n + 1 => by
    rw [Finset.sum_range_succ, ← lanes_apply v i n]; rfl

/-- The lane-wise sum of the squares of groups `0 … n - 1`. -/
theorem squares_apply (v : ℕ → Vec Ideal S32x128 .bf16) (m : FVec Ideal S32x1 .f32) (i : S32x128.Idx) :
    ∀ n, squares (F := Ideal) v m n i = ∑ g ∈ Finset.range n, centred (F := Ideal) (v g) m i * centred (F := Ideal) (v g) m i
  | 0 => Ideal.ofBits_zero_f32.trans (Finset.sum_range_zero _).symm
  | n + 1 => by
    rw [Finset.sum_range_succ, ← squares_apply v m i n]; rfl

/-- The constant of the printed code is the exact one. -/
theorem inv_d : (Named.named (F := Ideal) (φ := .f32) κ "inv_d" 0x394CCCCD#32 : EReal) = QuantSpec.invD := rfl

/-- So is the other. -/
theorem inv_ln2 : (Named.named (F := Ideal) (φ := .f32) κ "inv_ln2" 0x3FB8AA3B#32 : EReal) = QuantSpec.invLn2 := rfl

/-- The mean of a row whose lane-wise sums are `s`. -/
theorem rowMean_apply (s : FVec Ideal S32x128 .f32) (a : Fin 32) :
    rowMean (F := Ideal) s (ix2 a (0 : Fin 1)) = (∑ j : Fin 128, (s (ix2 a j) : EReal)) * QuantSpec.invD := by
  unfold rowMean
  refine congrArg₂ (fun x y : EReal => x * y) ?_ inv_d
  refine (shapeCast_a_a1_apply _ shapeCasts_S32_S32x1 a 0).trans ?_
  refine (Ideal.multiReduction_add_single s _ reduces_S32x128_S32 (.inl rfl) rfl (ix1 a)).trans ?_
  exact Finset.sum_congr rfl fun j _ => congrArg s (funext fun d => match d with | ⟨0, _⟩ => rfl | ⟨1, _⟩ => rfl)

/-- The greatest magnitude of a row of a group. -/
theorem amax_apply (h : FVec Ideal S32x128 .f32) (a : Fin 32) (j : Fin 128) :
    amax (F := Ideal) h (ix2 a j) = QuantSpec.top (fun l => h (ix2 a l)) * Ideal.ofBits .f32 0x3B124925#32 := by
  unfold amax QuantSpec.top
  refine congrArg₂ (fun x y : EReal => x * y) ?_ rfl
  refine (spread_col _ a j).trans ?_
  rw [shapeCast_self]
  refine (shapeCast_a_a1_apply _ shapeCasts_S32_S32x1 a 0).trans ?_
  refine (Ideal.multiReduction_maximumf_single (absf (F := Ideal) h) _ reduces_S32x128_S32 (.inl rfl) rfl (ix1 a)).trans ?_
  refine congrArg (fun f => (Finset.univ : Finset (Fin 128)).fold max (Ideal.ofBits .f32 0xFF800000#32) f) (funext fun l => ?_)
  refine congrArg (absf (F := Ideal) h) (funext fun d => match d with | ⟨0, _⟩ => rfl | ⟨1, _⟩ => rfl)

/-- The exponent, place by place. -/
theorem expo_apply (v : FVec Ideal S32x128 .f32) (i : S32x128.Idx) : expo (F := Ideal) v i = QuantSpec.expo (v i) := rfl

/-- The code, place by place. -/
theorem code_apply (h : FVec Ideal S32x128 .f32) (i : S32x128.Idx) :
    code (F := Ideal) h i = min (Ideal.ofBits .f32 0x43E00000#32) (max (Ideal.ofBits .f32 0xC3E00000#32)
      (h i * Ideal.exp2 (Ideal.ofBits .f32 0x00000000#32 - QuantSpec.expo (amax (F := Ideal) h i)))) := rfl

section Row
variable (x : Vec Ideal S256x5120 .bf16) (s t : Vec Ideal S1x1x5120 .bf16) (r : ℕ) (hr : r + 32 ≤ 256) (a : Fin 32)

/-- Row `r + a` of the block. -/
def xr : Fin 5120 → EReal := fun k => x (ix2 (⟨r + a.val, by have := a.isLt; omega⟩ : Fin 256) k)

/-- The row of a batch. -/
def sr (s : Vec Ideal S1x1x5120 .bf16) : Fin 5120 → EReal := fun k => s (ix3 (0 : Fin 1) (0 : Fin 1) k)

/-- The kernel's mean is the row's mean. -/
theorem mean_apply : mean (F := Ideal) (X x r hr) (ix2 a (0 : Fin 1)) = QuantSpec.mean (xr x r hr a) := by
  unfold mean QuantSpec.mean
  refine (rowMean_apply _ a).trans (congrArg (fun z : EReal => z * QuantSpec.invD) ?_)
  rw [← QuantSpec.sum_lanes]
  refine Finset.sum_congr rfl fun j _ => (lanes_apply (X x r hr) (ix2 a j) 39).trans ?_
  rw [Finset.sum_range]
  exact Finset.sum_congr rfl fun g _ => X_apply x r hr g a j

/-- A place of a group less the mean. -/
theorem centred_apply (g : Fin 40) (j : Fin 128) :
    centred (F := Ideal) (X x r hr g.val) (mean (F := Ideal) (X x r hr)) (ix2 a j) = xr x r hr a (QuantSpec.place g j) - QuantSpec.mean (xr x r hr a) :=
  congrArg₂ (fun y z : EReal => y - z) (X_apply x r hr g a j) ((spread_col _ a j).trans (mean_apply x r hr a))

/-- The kernel's inverse deviation is the row's. -/
theorem rstd_apply : rstd (F := Ideal) (X x r hr) (mean (F := Ideal) (X x r hr)) (ix2 a (0 : Fin 1)) = QuantSpec.rstd (xr x r hr a) := by
  unfold rstd QuantSpec.rstd
  refine congrArg (fun z : EReal => Ideal.rsqrt (z + Ideal.ofBits .f32 0x358637BD#32)) ?_
  refine (rowMean_apply _ a).trans (congrArg (fun z : EReal => z * QuantSpec.invD) ?_)
  rw [← QuantSpec.sum_lanes]
  refine Finset.sum_congr rfl fun j _ => (squares_apply (X x r hr) _ (ix2 a j) 40).trans ?_
  rw [Finset.sum_range]
  exact Finset.sum_congr rfl fun g _ => congrArg₂ (fun y z : EReal => y * z) (centred_apply x r hr a g j) (centred_apply x r hr a g j)

/-- THE MODULATED ROWS: the kernel's group `g` is those places of the modulated row. -/
theorem rows_apply (g : Fin 40) (j : Fin 128) :
    rows (F := Ideal) x s t r hr g.val (ix2 a j) = QuantSpec.act (xr x r hr a) (sr s) (sr t) (QuantSpec.place g j) := by
  unfold rows act QuantSpec.act
  refine congrArg₂ (fun y z : EReal => y + z) (congrArg₂ (fun y z : EReal => y * z) (congrArg₂ (fun y z : EReal => y * z) (centred_apply x r hr a g j)
    ((spread_col _ a j).trans (rstd_apply x r hr a))) ((spread_row _ a j).trans (congrArg (fun z : EReal => Ideal.ofBits .f32 0x3F800000#32 + z) (Y_apply s g j))))
    ((spread_row _ a j).trans (Y_apply t g j))

/-- The amount of a row's group. -/
theorem amax_rows (g : Fin 40) (j : Fin 128) :
    amax (F := Ideal) (rows (F := Ideal) x s t r hr g.val) (ix2 a j) = QuantSpec.amax (QuantSpec.act (xr x r hr a) (sr s) (sr t)) g := by
  refine (amax_apply _ a j).trans ?_
  exact congrArg (fun f => QuantSpec.top f * Ideal.ofBits .f32 0x3B124925#32) (funext fun l => rows_apply x s t r hr a g l)

/-- THE CODES: the kernel's codes of group `g` are the row's. -/
theorem code_rows (g : Fin 40) (j : Fin 128) :
    code (F := Ideal) (rows (F := Ideal) x s t r hr g.val) (ix2 a j) = QuantSpec.code (QuantSpec.act (xr x r hr a) (sr s) (sr t)) (QuantSpec.place g j) := by
  refine (code_apply _ _).trans ?_
  unfold QuantSpec.code
  rw [amax_rows, rows_apply, QuantSpec.group_place]

/-- Putting the groups' scales in, each in its column: column `q` holds its group's once that is in. -/
theorem scales_apply (h : ℕ → FVec Ideal S32x128 .f32) (q : Fin 40) : ∀ n, q.val < n → n ≤ 40 →
    scales (F := Ideal) h n (ix2 a q) = exp2 (F := Ideal) (expo (F := Ideal) (amax (F := Ideal) (h q.val))) (ix2 a (⟨q.val, Nat.lt_trans q.isLt (by decide)⟩ : Fin 128))
  | 0, hq, _ => absurd hq (Nat.not_lt_zero _)
  | n + 1, hq, hn => by
    show Scalar.select (Scalar.cmpi .eq (iota .tc S32x40 32 [1] iota_S32x40_d1_w32 (ix2 a q)) (BitVec.ofNat 32 n)) _ (scales (F := Ideal) h n (ix2 a q)) = _
    rw [iota_single_apply]
    show (if BitVec.ofBool (decide (BitVec.ofNat 32 q.val = BitVec.ofNat 32 n)) = 1 then _ else _) = _
    have hb : BitVec.ofNat 32 q.val = BitVec.ofNat 32 n ↔ q.val = n := by
      have := q.isLt
      constructor
      · intro e
        have e := congrArg BitVec.toNat e
        simp only [BitVec.toNat_ofNat] at e
        omega
      · exact fun e => congrArg _ e
    by_cases e : q.val = n
    · rw [if_pos (by rw [decide_eq_true (hb.mpr e)]; rfl)]
      subst e
      exact extractStridedSlice_apply _ _ _ _ _ (fun d => match d with | ⟨0, _⟩ => (Nat.zero_add _).symm | ⟨1, _⟩ => (Nat.zero_add _).symm)
    · rw [if_neg (by rw [decide_eq_false (fun h => e (hb.mp h))]; decide)]
      exact scales_apply h q n (by omega) (by omega)

/-- THE SCALES: the kernel's table of scales holds the row's. -/
theorem scales_rows (q : Fin 40) :
    scales (F := Ideal) (rows (F := Ideal) x s t r hr) 40 (ix2 a q) = QuantSpec.scale (QuantSpec.act (xr x r hr a) (sr s) (sr t)) q := by
  refine (scales_apply a _ q 40 q.isLt le_rfl).trans ?_
  refine congrArg (fun z : EReal => Ideal.exp2 (QuantSpec.expo z)) (amax_rows x s t r hr a q _)

end Row

end Cert.Proof.QuantValue
end
-- ==== Proof.QuantBlock.lean ====
module
public import proofs.«01_k».proof.Proof.QuantRun
public import proofs.«01_k».proof.Proof.QuantValue
public import Idealize.ShloMosaic.Lib.Pipeline.Value
@[expose] public section
noncomputable section
namespace Cert.Proof.QuantBlock
open Cert.QuantIdeal Cert.QuantIdeal.Gen Idealize.ShloMosaic Idealize.ShloMosaic.TcCoe Idealize.SL.Sem
open Idealize.ShloMosaic.ValueIdx Cert.Proof.QuantPieces Cert.Proof.QuantValue

section Target
variable (x : Vec Ideal S256x5120 .bf16) (s t : Vec Ideal S1x1x5120 .bf16)

/-- The modulated row `r` of a block. -/
def rowOf (r : Fin 256) : Fin 5120 → EReal := QuantSpec.act (fun k => x (ix2 r k)) (sr s) (sr t)

/-- The codes of a block. -/
def codesT (y : S256x5120.Idx) : EReal := QuantSpec.code (rowOf x s t (y 0)) (y 1)

/-- The scales of a block. -/
def scalesT (y : S256x40.Idx) : EReal := QuantSpec.scale (rowOf x s t (y 0)) (y 1)

/-- A piece of codes holds the block's codes at its places. -/
theorem codePiece_at (n : ℕ) (g : Fin 40) (y : S32x128.Idx) :
    (codePiece (F := Ideal) x s t n g.val).2 y = codesT x s t ((codePiece (F := Ideal) x s t n g.val).1.emb y) := by
  obtain ⟨a, j, rfl⟩ : ∃ (a : Fin 32) (j : Fin 128), y = ix2 a j := ⟨y 0, y 1, eq_ix2 y⟩
  refine (code_rows x s t _ (inbR n) a g j).trans
    (congrArg₂ (fun (r : Fin 256) (k : Fin 5120) => QuantSpec.code (rowOf x s t r) k) (Fin.ext ?_) (Fin.ext ?_))
  · show 32 * (n % 8) + a.val = 32 * (n % 8) + 1 * a.val
    omega
  · show 128 * g.val + j.val = 128 * (g.val % 40) + 1 * j.val
    rw [Nat.mod_eq_of_lt g.isLt]; omega

/-- A piece of scales holds the block's scales at its places. -/
theorem scalePiece_at (n : ℕ) (y : S32x40.Idx) :
    (scalePiece (F := Ideal) x s t n).2 y = scalesT x s t ((scalePiece (F := Ideal) x s t n).1.emb y) := by
  obtain ⟨a, q, rfl⟩ : ∃ (a : Fin 32) (q : Fin 40), y = ix2 a q := ⟨y 0, y 1, eq_ix2 y⟩
  refine (scales_rows x s t _ (inbR n) a q).trans
    (congrArg₂ (fun (r : Fin 256) (k : Fin 40) => QuantSpec.scale (rowOf x s t r) k) (Fin.ext ?_) (Fin.ext ?_))
  · show 32 * (n % 8) + a.val = 32 * (n % 8) + 1 * a.val
    omega
  · show q.val = 0 + 1 * q.val
    omega

/-- So do the pieces of the first groups of 32 rows, put before pieces that do. -/
theorem codePieces_at (n : ℕ) (L : List (View.Piece (Elt Ideal) S256x5120 .fp8e4m3))
    (hL : ∀ p ∈ L, ∀ y, p.2 y = codesT x s t (p.1.emb y)) :
    ∀ g, g ≤ 40 → ∀ p ∈ codePieces (F := Ideal) x s t n L g, ∀ y, p.2 y = codesT x s t (p.1.emb y)
  | 0, _, p, hp, y => hL p hp y
  | g + 1, hg, p, hp, y => by
    rcases List.mem_cons.mp (show p ∈ codePiece (F := Ideal) x s t n g :: codePieces (F := Ideal) x s t n L g from hp) with e | h
    · subst e; exact codePiece_at x s t n ⟨g, hg⟩ y
    · exact codePieces_at n L hL g (Nat.le_of_succ_le hg) p h y

/-- So do the pieces of the first blocks of 32 rows. -/
theorem codesOf_at : ∀ n, ∀ p ∈ codesOf (F := Ideal) x s t n, ∀ y, p.2 y = codesT x s t (p.1.emb y)
  | 0, p, hp, _ => absurd (show p ∈ ([] : List _) from hp) (List.not_mem_nil)
  | n + 1, p, hp, y => codePieces_at x s t n _ (codesOf_at n) 40 le_rfl p hp y

/-- The pieces of scales of the first blocks of 32 rows hold the block's scales at their places. -/
theorem scalesOf_at : ∀ n, ∀ p ∈ scalesOf (F := Ideal) x s t n, ∀ y, p.2 y = scalesT x s t (p.1.emb y)
  | 0, p, hp, _ => absurd (show p ∈ ([] : List _) from hp) (List.not_mem_nil)
  | n + 1, p, hp, y => by
    rcases List.mem_cons.mp (show p ∈ scalePiece (F := Ideal) x s t n :: scalesOf (F := Ideal) x s t n from hp) with e | h
    · subst e; exact scalePiece_at x s t n y
    · exact scalesOf_at n p h y

end Target

/-- WHAT A POINT WRITES TO ITS BLOCK OF CODES: the block's codes. -/
theorem out_codes (c : Dev nD) (i : grid0.Coords) (arg1 : Memref sig .tc .vmem S256x5120 .bf16) (harg1 : arg1.IsWhole) (arg2 : Memref sig .tc .vmem S1x1x5120 .bf16) (harg2 : arg2.IsWhole) (arg3 : Memref sig .tc .vmem S1x1x5120 .bf16) (harg3 : arg3.IsWhole) (arg4 : Memref sig .tc .vmem S256x5120 .fp8e4m3) (harg4 : arg4.IsWhole) (arg5 : Memref sig .tc .vmem S256x40 .f32) (harg5 : arg5.IsWhole) (arg6 : Memref sig .tc .vmem S32x5120 .f32) (harg6 : arg6.IsWhole)
    (x0 : Vec Ideal S256x5120 .bf16) (x1 : Vec Ideal S1x1x5120 .bf16) (x2 : Vec Ideal S1x1x5120 .bf16) :
    out0_A_3 (F := Ideal) c i arg1 harg1 arg2 harg2 arg3 harg3 arg4 harg4 arg5 harg5 arg6 harg6 x0 x1 x2 = codesT x0 x1 x2 := by
  have hc := cover0_A_3 (F := Ideal) c i arg1 harg1 arg2 harg2 arg3 harg3 arg4 harg4 arg5 harg5 arg6 harg6 x0 x1 x2
  unfold out0_A_3
  rw [View.read_writes_eq_canon _ _ _ hc]
  rw [QuantRun.codes_eq, harg1.read_unread, harg2.read_unread, harg3.read_unread] at hc ⊢
  exact funext fun y => View.canon_apply_of_pieces (codesT x0 x1 x2) _ (codesOf_at x0 x1 x2 8) y (hc y)

/-- WHAT A POINT WRITES TO ITS BLOCK OF SCALES: the block's scales. -/
theorem out_scales (c : Dev nD) (i : grid0.Coords) (arg1 : Memref sig .tc .vmem S256x5120 .bf16) (harg1 : arg1.IsWhole) (arg2 : Memref sig .tc .vmem S1x1x5120 .bf16) (harg2 : arg2.IsWhole) (arg3 : Memref sig .tc .vmem S1x1x5120 .bf16) (harg3 : arg3.IsWhole) (arg4 : Memref sig .tc .vmem S256x5120 .fp8e4m3) (harg4 : arg4.IsWhole) (arg5 : Memref sig .tc .vmem S256x40 .f32) (harg5 : arg5.IsWhole) (arg6 : Memref sig .tc .vmem S32x5120 .f32) (harg6 : arg6.IsWhole)
    (x0 : Vec Ideal S256x5120 .bf16) (x1 : Vec Ideal S1x1x5120 .bf16) (x2 : Vec Ideal S1x1x5120 .bf16) :
    out0_A_4 (F := Ideal) c i arg1 harg1 arg2 harg2 arg3 harg3 arg4 harg4 arg5 harg5 arg6 harg6 x0 x1 x2 = scalesT x0 x1 x2 := by
  have hc := cover0_A_4 (F := Ideal) c i arg1 harg1 arg2 harg2 arg3 harg3 arg4 harg4 arg5 harg5 arg6 harg6 x0 x1 x2
  unfold out0_A_4
  rw [View.read_writes_eq_canon _ _ _ hc]
  rw [QuantRun.scales_eq, harg1.read_unread, harg2.read_unread, harg3.read_unread] at hc ⊢
  exact funext fun y => View.canon_apply_of_pieces (scalesT x0 x1 x2) _ (scalesOf_at x0 x1 x2 8) y (hc y)

end Cert.Proof.QuantBlock
end
-- ==== Proof.QuantResult.lean ====
module
public import proofs.«01_k».proof.Proof.QuantBlock
public import Idealize.ShloMosaic.Lib.ValueLayout
@[expose] public section
noncomputable section
namespace Cert.Proof.QuantResult
open Cert.QuantIdeal Cert.QuantIdeal.Gen Idealize.ShloMosaic Idealize.ShloMosaic.TcCoe Idealize.SL.Sem
open Idealize.ShloMosaic.ValueIdx Cert.Proof.QuantBlock

variable (m : (ℓ : Loc nD τ sig) → Buf (Elt Ideal) ℓ)

/-- The blocks of a point: rows from 256 times its number, and the row of their batch. -/
theorem index : ∀ t : Fin cfg0.N, win0_0.index t = ![t.val, 0] ∧ win0_1.index t = ![t.val / 4, 0, 0]
    ∧ win0_2.index t = ![t.val / 4, 0, 0] ∧ win0_3.index t = ![t.val, 0] ∧ win0_4.index t = ![t.val, 0] :=
  (by decide +kernel : ∀ t : Fin grid0.N, win0_0.index t = ![t.val, 0] ∧ win0_1.index t = ![t.val / 4, 0, 0]
    ∧ win0_2.index t = ![t.val / 4, 0, 0] ∧ win0_3.index t = ![t.val, 0] ∧ win0_4.index t = ![t.val, 0])

/-- A batch's row with a unit axis put in, at a place. -/
theorem unit_cast (x : Vec Ideal S8x5120 .bf16) (h : S8x5120.ShapeCasts S8x1x5120) (p : Fin 8) (k : Fin 5120) :
    shapeCast S8x1x5120 x h (ix3 p (0 : Fin 1) k) = x (ix2 p k) := by
  refine shapeCast_apply x h _ _ ?_
  rw [Shape.rowMajor_val_three, Shape.rowMajor_val_two]
  show p.val * 5120 + k.val = (p.val * 1 + 0) * 5120 + k.val
  omega

/-- The batches' rows set one below another, at a place. -/
theorem flat_cast (x : Vec Ideal S8x1024x5120 .bf16) (h : S8x1024x5120.ShapeCasts S8192x5120) (R : Fin 8192) (k : Fin 5120) :
    shapeCast S8192x5120 x h (ix2 R k) = x (ix3 (QuantSpec.batch R) (QuantSpec.within R) k) := by
  refine shapeCast_apply x h _ _ ?_
  rw [Shape.rowMajor_val_three, Shape.rowMajor_val_two]
  show (R.val / 1024 * 1024 + R.val % 1024) * 5120 + k.val = R.val * 5120 + k.val
  omega

/-- The rows as the launch finds them: the first argument's. -/
theorem V_rows (c : Dev nD) (R : Fin 8192) (k : Fin 5120) :
    V m c main_v0 (ix2 R k) = m ((c : Thread nD τ).loc main_arg0) (ix3 (QuantSpec.batch R) (QuantSpec.within R) k) := by
  have h : V m c main_v0 = shapeCast S8192x5120 (m ((c : Thread nD τ).loc main_arg0)) shapeCasts_S8x1024x5120_S8192x5120 := by
    show StableHlo.after hostOps0 _ (Proc.devRef .tc main_v0) = _
    unfold hostOps0
    rw [StableHlo.after_cons, StableHlo.after_cons, StableHlo.after_cons, StableHlo.after_nil,
      StableHlo.reshape_result_ne' (h := (by decide : main_v0 ≠ main_v2)),
      StableHlo.reshape_result_ne' (h := (by decide : main_v0 ≠ main_v1)), StableHlo.reshape_result']
    rfl
  rw [h]
  exact flat_cast _ _ R k

/-- The scales of the batches as the launch finds them: the third argument's. -/
theorem V_scale (c : Dev nD) (p : Fin 8) (k : Fin 5120) :
    V m c main_v1 (ix3 p (0 : Fin 1) k) = m ((c : Thread nD τ).loc main_arg2) (ix2 p k) := by
  have h : V m c main_v1 = shapeCast S8x1x5120 (m ((c : Thread nD τ).loc main_arg2)) shapeCasts_S8x5120_S8x1x5120 := by
    show StableHlo.after hostOps0 _ (Proc.devRef .tc main_v1) = _
    unfold hostOps0
    rw [StableHlo.after_cons, StableHlo.after_cons, StableHlo.after_cons, StableHlo.after_nil,
      StableHlo.reshape_result_ne' (h := (by decide : main_v1 ≠ main_v2)), StableHlo.reshape_result',
      StableHlo.reshape_result_ne' (h := (by decide : main_arg2 ≠ main_v0))]
    rfl
  rw [h]
  exact unit_cast _ _ p k

/-- The shifts of the batches as the launch finds them: the second argument's. -/
theorem V_shift (c : Dev nD) (p : Fin 8) (k : Fin 5120) :
    V m c main_v2 (ix3 p (0 : Fin 1) k) = m ((c : Thread nD τ).loc main_arg1) (ix2 p k) := by
  have h : V m c main_v2 = shapeCast S8x1x5120 (m ((c : Thread nD τ).loc main_arg1)) shapeCasts_S8x5120_S8x1x5120 := by
    show StableHlo.after hostOps0 _ (Proc.devRef .tc main_v2) = _
    unfold hostOps0
    rw [StableHlo.after_cons, StableHlo.after_cons, StableHlo.after_cons, StableHlo.after_nil, StableHlo.reshape_result',
      StableHlo.reshape_result_ne' (h := (by decide : main_arg1 ≠ main_v1)),
      StableHlo.reshape_result_ne' (h := (by decide : main_arg1 ≠ main_v0))]
    rfl
  rw [h]
  exact unit_cast _ _ p k

/-- An element of the point's block of rows. -/
theorem iblk0_apply (c : Dev nD) (t : Fin cfg0.N) (r : Fin 256) (k : Fin 5120) (R : Fin 8192) (hR : R.val = t.val * 256 + r.val) :
    iblk m c 0 t (ix2 r k) = m ((c : Thread nD τ).loc main_arg0) (ix3 (QuantSpec.batch R) (QuantSpec.within R) k) := by
  refine Eq.trans ?_ (V_rows m c R k)
  show V m c main_v0 (((cfg0.win 0).blk t).view.emb (ix2 r k)) = _
  refine congrArg _ (funext fun a => ?_)
  obtain ⟨h, -⟩ := index t
  match a with
  | ⟨0, _⟩ =>
    apply Fin.ext
    show win0_0.index t 0 * 256 + 1 * r.val = R.val
    rw [h, hR]; show t.val * 256 + 1 * r.val = _; omega
  | ⟨1, _⟩ =>
    apply Fin.ext
    show win0_0.index t 1 * 5120 + 1 * k.val = k.val
    rw [h]; show 0 * 5120 + 1 * k.val = _; omega

/-- An element of the point's row of scales. -/
theorem iblk1_apply (c : Dev nD) (t : Fin cfg0.N) (k : Fin 5120) (p : Fin 8) (hp : p.val = t.val / 4) :
    iblk m c 1 t (ix3 (0 : Fin 1) (0 : Fin 1) k) = m ((c : Thread nD τ).loc main_arg2) (ix2 p k) := by
  refine Eq.trans ?_ (V_scale m c p k)
  show V m c main_v1 (((cfg0.win 1).blk t).view.emb (ix3 (0 : Fin 1) (0 : Fin 1) k)) = _
  refine congrArg _ (funext fun a => ?_)
  obtain ⟨-, h, -⟩ := index t
  match a with
  | ⟨0, _⟩ =>
    apply Fin.ext
    show win0_1.index t 0 * 1 + 1 * 0 = p.val
    rw [h, hp]; show t.val / 4 * 1 + 1 * 0 = _; omega
  | ⟨1, _⟩ =>
    apply Fin.ext
    show win0_1.index t 1 * 1 + 1 * 0 = 0
    rw [h]; rfl
  | ⟨2, _⟩ =>
    apply Fin.ext
    show win0_1.index t 2 * 5120 + 1 * k.val = k.val
    rw [h]; show 0 * 5120 + 1 * k.val = _; omega

/-- An element of the point's row of shifts. -/
theorem iblk2_apply (c : Dev nD) (t : Fin cfg0.N) (k : Fin 5120) (p : Fin 8) (hp : p.val = t.val / 4) :
    iblk m c 2 t (ix3 (0 : Fin 1) (0 : Fin 1) k) = m ((c : Thread nD τ).loc main_arg1) (ix2 p k) := by
  refine Eq.trans ?_ (V_shift m c p k)
  show V m c main_v2 (((cfg0.win 2).blk t).view.emb (ix3 (0 : Fin 1) (0 : Fin 1) k)) = _
  refine congrArg _ (funext fun a => ?_)
  obtain ⟨-, -, h, -⟩ := index t
  match a with
  | ⟨0, _⟩ =>
    apply Fin.ext
    show win0_2.index t 0 * 1 + 1 * 0 = p.val
    rw [h, hp]; show t.val / 4 * 1 + 1 * 0 = _; omega
  | ⟨1, _⟩ =>
    apply Fin.ext
    show win0_2.index t 1 * 1 + 1 * 0 = 0
    rw [h]; rfl
  | ⟨2, _⟩ =>
    apply Fin.ext
    show win0_2.index t 2 * 5120 + 1 * k.val = k.val
    rw [h]; show 0 * 5120 + 1 * k.val = _; omega

/-- A modulated row of a point's block is the modulated row of the arguments it is. -/
theorem row_eq (c : Dev nD) (t : Fin cfg0.N) (r : Fin 256) (R : Fin 8192) (hR : R.val = t.val * 256 + r.val) :
    rowOf (iblk m c 0 t) (iblk m c 1 t) (iblk m c 2 t) r
      = QuantSpec.row (m ((c : Thread nD τ).loc main_arg0)) (m ((c : Thread nD τ).loc main_arg1)) (m ((c : Thread nD τ).loc main_arg2)) R := by
  have hp : (QuantSpec.batch R).val = t.val / 4 := by
    show R.val / 1024 = t.val / 4
    have := r.isLt
    omega
  unfold rowOf QuantSpec.row
  rw [show (fun k => iblk m c 0 t (ix2 r k)) = (fun k => m ((c : Thread nD τ).loc main_arg0) (ix3 (QuantSpec.batch R) (QuantSpec.within R) k)) from
      funext fun k => iblk0_apply m c t r k R hR,
    show QuantValue.sr (iblk m c 1 t) = (fun k => m ((c : Thread nD τ).loc main_arg2) (ix2 (QuantSpec.batch R) k)) from
      funext fun k => iblk1_apply m c t k _ hp,
    show QuantValue.sr (iblk m c 2 t) = (fun k => m ((c : Thread nD τ).loc main_arg1) (ix2 (QuantSpec.batch R) k)) from
      funext fun k => iblk2_apply m c t k _ hp]

/-- The point whose blocks row `R` lies in, and the row's place in them. -/
theorem point (R : Fin 8192) : ∃ (t : Fin cfg0.N) (r : Fin 256), R.val = t.val * 256 + r.val :=
  ⟨⟨R.val / 256, lt_of_lt_of_eq (Nat.div_lt_of_lt_mul R.isLt) (show 32 = cfg0.N from N_0.symm)⟩, ⟨R.val % 256, Nat.mod_lt _ (by decide)⟩,
    show R.val = R.val / 256 * 256 + R.val % 256 by omega⟩

/-- A point's whole block of codes is written back. -/
theorem cut_codes (t : Fin cfg0.N) (X : Vec Ideal S256x5120 .fp8e4m3) (r : Fin 256) (k : Fin 5120) :
    (cfg0.win 3).cut (grid0.coords t) X (ix2 r k) = X (ix2 r k) := rfl

/-- A point's whole block of scales is written back. -/
theorem cut_scales (t : Fin cfg0.N) (X : Vec Ideal S256x40 .f32) (r : Fin 256) (g : Fin 40) :
    (cfg0.win 4).cut (grid0.coords t) X (ix2 r g) = X (ix2 r g) := rfl

/-- THE KERNEL'S CODES: the code of place `k` of the modulated row `R`. -/
theorem codes (c : Dev nD) (R : Fin 8192) (k : Fin 5120) :
    (dats m 0 c).arrAt 3 cfg0.N (ix2 R k)
      = QuantSpec.code (QuantSpec.row (m ((c : Thread nD τ).loc main_arg0)) (m ((c : Thread nD τ).loc main_arg1)) (m ((c : Thread nD τ).loc main_arg2)) R) k := by
  obtain ⟨t, r, hR⟩ := point R
  have e := congrFun ((Value.blocks3 m c t (flush0_3 t)).trans (Value.flushed3_A m c t)) (ix2 r k)
  rw [out_codes] at e
  have he : ((cfg0.win 3).blk t).view.emb (ix2 r k) = ix2 R k := by
    obtain ⟨-, -, -, h, -⟩ := index t
    refine funext fun a => ?_
    match a with
    | ⟨0, _⟩ =>
      apply Fin.ext
      show win0_3.index t 0 * 256 + 1 * r.val = R.val
      rw [h, hR]; show t.val * 256 + 1 * r.val = _; omega
    | ⟨1, _⟩ =>
      apply Fin.ext
      show win0_3.index t 1 * 5120 + 1 * k.val = k.val
      rw [h]; show 0 * 5120 + 1 * k.val = _; omega
  rw [cut_codes] at e
  generalize (dats m 0 c).arrAt 3 cfg0.N = A at e ⊢
  unfold codesT at e
  rw [← he]
  rw [← row_eq m c t r R hR]
  exact e

/-- THE KERNEL'S SCALES: the scale of group `g` of the modulated row `R`. -/
theorem scales (c : Dev nD) (R : Fin 8192) (g : Fin 40) :
    (dats m 0 c).arrAt 4 cfg0.N (ix2 R g)
      = QuantSpec.scale (QuantSpec.row (m ((c : Thread nD τ).loc main_arg0)) (m ((c : Thread nD τ).loc main_arg1)) (m ((c : Thread nD τ).loc main_arg2)) R) g := by
  obtain ⟨t, r, hR⟩ := point R
  have e := congrFun ((Value.blocks4 m c t (flush0_4 t)).trans (Value.flushed4_A m c t)) (ix2 r g)
  rw [out_scales] at e
  have he : ((cfg0.win 4).blk t).view.emb (ix2 r g) = ix2 R g := by
    obtain ⟨-, -, -, -, h⟩ := index t
    refine funext fun a => ?_
    match a with
    | ⟨0, _⟩ =>
      apply Fin.ext
      show win0_4.index t 0 * 256 + 1 * r.val = R.val
      rw [h, hR]; show t.val * 256 + 1 * r.val = _; omega
    | ⟨1, _⟩ =>
      apply Fin.ext
      show win0_4.index t 1 * 40 + 1 * g.val = g.val
      rw [h]; show 0 * 40 + 1 * g.val = _; omega
  rw [cut_scales] at e
  generalize (dats m 0 c).arrAt 4 cfg0.N = A at e ⊢
  unfold scalesT at e
  rw [← he]
  rw [← row_eq m c t r R hR]
  exact e

end Cert.Proof.QuantResult
end
-- ==== Proof.QuantReference.lean ====
module
public import proofs.«01_k».proof.Proof.QuantSpec
public import proofs.«01_k».proof.Proof.Gen.QuantiseIdeal.Value
public import Idealize.ShloMosaic.Lib.ValueLayout
public import Idealize.ShloMosaic.Lib.ValueLayoutCasts
public import Idealize.ShloMosaic.PureOps.Ideal.Laws
@[expose] public section
noncomputable section
namespace Cert.Proof.QuantReference
open Cert.QuantiseIdeal Cert.QuantiseIdeal.Gen Idealize.ShloMosaic Idealize.ShloMosaic.TcCoe Idealize.SL.Sem
open Idealize.ShloMosaic.ValueIdx Idealize.ShloMosaic.Tactic

/-- The length of a row, as the reference writes it. -/
theorem len : Ideal.ofBits .f32 0x45A00000#32 = ((5120 : ℝ) : EReal) := by
  simp [Ideal.ofBits, Ideal.ieee, -EReal.coe_mul]; norm_num

/-- A quotient by the length is a product by its inverse. -/
theorem div_len (x : EReal) : Ideal.div x (Ideal.ofBits .f32 0x45A00000#32) = x * QuantSpec.invD := by
  rw [len]
  exact Ideal.div_coe (by norm_num : (5120 : ℝ) ≠ 0) x

/-- The reference's means over the rows, spread as a column. -/
def avg (x : FVec Ideal S8x1024x5120 .f32) : FVec Ideal S8x1024x1 .f32 :=
  divf (shapeCast S8x1024x1 (multiReduction .add [2] S8x1024 x 0x00000000#32 reduces_S8x1024x5120_S8x1024 (.inl rfl) rfl) shapeCasts_S8x1024_S8x1024x1)
    (broadcast S8x1024x1 (Scalar.ofBits .f32 0x45A00000#32))

/-- The mean over a row. -/
theorem avg_apply (x : FVec Ideal S8x1024x5120 .f32) (p : Fin 8) (q : Fin 1024) :
    avg x (ix3 p q (0 : Fin 1)) = (∑ k : Fin 5120, (x (ix3 p q k) : EReal)) * QuantSpec.invD := by
  unfold avg
  refine (div_len _).trans (congrArg (fun z : EReal => z * QuantSpec.invD) ?_)
  refine (shapeCast_apply _ shapeCasts_S8x1024_S8x1024x1 (ix3 p q (0 : Fin 1)) (ix2 p q) ?_).trans ?_
  · rw [Shape.rowMajor_val_three, Shape.rowMajor_val_two]
    show p.val * 1024 + q.val = (p.val * 1024 + q.val) * 1 + 0
    omega
  refine (Ideal.multiReduction_add_single x _ reduces_S8x1024x5120_S8x1024 (.inl rfl) rfl (ix2 p q)).trans ?_
  exact Finset.sum_congr rfl fun j _ => congrArg x (funext fun d => match d with | ⟨0, _⟩ => rfl | ⟨1, _⟩ => rfl | ⟨2, _⟩ => rfl)

/-- A column spread over a row. -/
theorem spread_col (m : FVec Ideal S8x1024x1 .f32) (p : Fin 8) (q : Fin 1024) (k : Fin 5120) :
    broadcastTo S8x1024x5120 m broadcasts_S8x1024x1_S8x1024x5120 (ix3 p q k) = m (ix3 p q (0 : Fin 1)) :=
  broadcastTo_apply m _ _ _ (by intro d; match d with | ⟨0, _⟩ => rfl | ⟨1, _⟩ => rfl | ⟨2, _⟩ => rfl)

/-- A batch's row spread over its rows. -/
theorem spread_row (m : FVec Ideal S8x1x5120 .f32) (p : Fin 8) (q : Fin 1024) (k : Fin 5120) :
    broadcastTo S8x1024x5120 m broadcasts_S8x1x5120_S8x1024x5120 (ix3 p q k) = m (ix3 p (0 : Fin 1) k) :=
  broadcastTo_apply m _ _ _ (by intro d; match d with | ⟨0, _⟩ => rfl | ⟨1, _⟩ => rfl | ⟨2, _⟩ => rfl)

/-- A unit axis put into a table of rows. -/
theorem unit_row (x : FVec Ideal S8x5120 .f32) (p : Fin 8) (k : Fin 5120) :
    shapeCast S8x1x5120 x shapeCasts_S8x5120_S8x1x5120 (ix3 p (0 : Fin 1) k) = x (ix2 p k) := by
  refine shapeCast_apply x _ _ _ ?_
  rw [Shape.rowMajor_val_three, Shape.rowMajor_val_two]
  show p.val * 5120 + k.val = (p.val * 1 + 0) * 5120 + k.val
  omega

/-- The reference's rows less their means. -/
def centred (x : FVec Ideal S8x1024x5120 .f32) : FVec Ideal S8x1024x5120 .f32 :=
  subf x (broadcastTo S8x1024x5120 (avg x) broadcasts_S8x1024x1_S8x1024x5120)

/-- The reference's inverse deviations. -/
def rstd (x : FVec Ideal S8x1024x5120 .f32) : FVec Ideal S8x1024x1 .f32 :=
  rsqrt (addf (avg (mulf (centred x) (centred x))) (broadcast S8x1024x1 (Scalar.ofBits .f32 0x358637BD#32)))

/-- The greatest magnitudes of the groups. -/
def top (h : FVec Ideal S8x1024x40x128 .f32) : FVec Ideal S8x1024x40 .f32 :=
  multiReduction .maximumf [3] S8x1024x40 (absf h) 0xFF800000#32 reduces_S8x1024x40x128_S8x1024x40 (.inl rfl) rfl

/-- The greatest magnitude of a group. -/
theorem top_apply (h : FVec Ideal S8x1024x40x128 .f32) (p : Fin 8) (q : Fin 1024) (g : Fin 40) :
    top h (ix3 p q g) = QuantSpec.top (fun l => h (ix4 p q g l)) := by
  unfold top QuantSpec.top
  refine (Ideal.multiReduction_maximumf_single (absf (F := Ideal) h) _ reduces_S8x1024x40x128_S8x1024x40 (.inl rfl) rfl (ix3 p q g)).trans ?_
  refine congrArg (fun f => (Finset.univ : Finset (Fin 128)).fold max (Ideal.ofBits .f32 0xFF800000#32) f) (funext fun l => ?_)
  refine congrArg (absf (F := Ideal) h) (funext fun d => match d with | ⟨0, _⟩ => rfl | ⟨1, _⟩ => rfl | ⟨2, _⟩ => rfl | ⟨3, _⟩ => rfl)

/-- The greatest magnitudes of the groups, over the greatest code. -/
def amax (h : FVec Ideal S8x1024x40x128 .f32) : FVec Ideal S8x1024x40 .f32 :=
  mulf (top h) (broadcast S8x1024x40 (Scalar.ofBits .f32 0x3B124925#32))

/-- The greatest magnitude of a group, over the greatest code. -/
theorem amax_apply (h : FVec Ideal S8x1024x40x128 .f32) (p : Fin 8) (q : Fin 1024) (g : Fin 40) :
    amax h (ix3 p q g) = QuantSpec.top (fun l => h (ix4 p q g l)) * Ideal.ofBits .f32 0x3B124925#32 := by
  unfold amax
  rw [mulf_apply, top_apply]
  rfl

/-- The exponents of the groups' powers of two, from their greatest magnitudes `u` and their amounts `v`. -/
def expo (u v : FVec Ideal S8x1024x40 .f32) : FVec Ideal S8x1024x40 .f32 :=
  select (cmpf .oeq u (broadcast S8x1024x40 (Scalar.ofBits .f32 0x00000000#32))) (broadcast S8x1024x40 (Scalar.ofBits .f32 0x00000000#32))
    (addf (floor (mulf (log v) (broadcast S8x1024x40 (Named.named κ "inv_ln2" 0x3FB8AA3B#32)))) (broadcast S8x1024x40 (Scalar.ofBits .f32 0x3F800000#32)))

/-- The exponent, place by place. -/
theorem expo_at (u v : FVec Ideal S8x1024x40 .f32) (i : S8x1024x40.Idx) :
    expo u v i = Scalar.select (Ideal.cmp .oeq (u i) (Ideal.ofBits .f32 0x00000000#32)) (Ideal.ofBits .f32 0x00000000#32)
      (Ideal.liftRound Int.floor (Ideal.log (v i) * QuantSpec.invLn2) + Ideal.ofBits .f32 0x3F800000#32) := rfl

/-- The reciprocal of the greatest code is not nought. -/
theorem recip_ne_zero : Ideal.ofBits .f32 0x3B124925#32 ≠ (0 : EReal) := by
  simp [Ideal.ofBits, Ideal.ieee, -EReal.coe_mul]

/-- An amount is nought exactly when the greatest magnitude is. -/
theorem zero_iff (u : EReal) : Ideal.cmp .oeq (u * Ideal.ofBits .f32 0x3B124925#32) (Ideal.ofBits .f32 0x00000000#32)
    = Ideal.cmp .oeq u (Ideal.ofBits .f32 0x00000000#32) := by
  rw [Ideal.ofBits_zero_f32]
  refine congrArg BitVec.ofBool (decide_eq_decide.mpr ?_)
  rw [mul_eq_zero]
  exact or_iff_left recip_ne_zero

/-- The exponent of a group's power of two, of its amount alone. -/
theorem expo_apply (h : FVec Ideal S8x1024x40x128 .f32) (p : Fin 8) (q : Fin 1024) (g : Fin 40) :
    expo (top h) (amax h) (ix3 p q g) = QuantSpec.expo (amax h (ix3 p q g)) := by
  rw [expo_at, top_apply, amax_apply]
  unfold QuantSpec.expo
  rw [zero_iff]

/-- The power of two, place by place. -/
theorem exp2_at (v : FVec Ideal S8x1024x40 .f32) (i : S8x1024x40.Idx) : exp2 (F := Ideal) v i = Ideal.exp2 (v i) := rfl

/-- The codes of the groups `h` whose exponents are `e`. -/
def clip (h : FVec Ideal S8x1024x40x128 .f32) (e : FVec Ideal S8x1024x40 .f32) : FVec Ideal S8x1024x40x128 .fp8e4m3 :=
  truncf .fp8e4m3 (minimumf (broadcast S8x1024x40x128 (Scalar.ofBits .f32 0x43E00000#32))
    (maximumf (broadcast S8x1024x40x128 (Scalar.ofBits .f32 0xC3E00000#32))
      (mulf h (broadcastTo S8x1024x40x128 (shapeCast S8x1024x40x1 (exp2 (subf (broadcast S8x1024x40 (Scalar.ofBits .f32 0x00000000#32)) e))
        shapeCasts_S8x1024x40_S8x1024x40x1) broadcasts_S8x1024x40x1_S8x1024x40x128)))) bitsLt_fp8e4m3_f32

/-- A group's value spread over its places. -/
theorem spread_group (z : FVec Ideal S8x1024x40 .f32) (p : Fin 8) (q : Fin 1024) (g : Fin 40) (j : Fin 128) :
    broadcastTo S8x1024x40x128 (shapeCast S8x1024x40x1 z shapeCasts_S8x1024x40_S8x1024x40x1) broadcasts_S8x1024x40x1_S8x1024x40x128 (ix4 p q g j) = z (ix3 p q g) := by
  refine (broadcastTo_apply _ _ _ (ix4 p q g (0 : Fin 1)) (by
    intro d; match d with | ⟨0, _⟩ => rfl | ⟨1, _⟩ => rfl | ⟨2, _⟩ => rfl | ⟨3, _⟩ => rfl)).trans ?_
  refine shapeCast_apply _ _ _ (ix3 p q g) ?_
  rw [Shape.rowMajor_val_three, Shape.rowMajor_val_four]
  show (p.val * 1024 + q.val) * 40 + g.val = ((p.val * 1024 + q.val) * 40 + g.val) * 1 + 0
  omega

/-- The code of a place. -/
theorem clip_apply (h : FVec Ideal S8x1024x40x128 .f32) (e : FVec Ideal S8x1024x40 .f32) (p : Fin 8) (q : Fin 1024) (g : Fin 40) (j : Fin 128) :
    clip h e (ix4 p q g j) = min (Ideal.ofBits .f32 0x43E00000#32) (max (Ideal.ofBits .f32 0xC3E00000#32)
      (h (ix4 p q g j) * Ideal.exp2 (Ideal.ofBits .f32 0x00000000#32 - e (ix3 p q g)))) := by
  unfold clip
  rw [truncf_apply, minimumf_apply, maximumf_apply, mulf_apply, spread_group]
  rfl

/-- The groups' codes laid out as rows. -/
theorem flat_codes (z : FVec Ideal S8x1024x40x128 .fp8e4m3) (p : Fin 8) (q : Fin 1024) (R : Fin 8192) (hR : R.val = p.val * 1024 + q.val) (k : Fin 5120) :
    shapeCast S8192x5120 z shapeCasts_S8x1024x40x128_S8192x5120 (ix2 R k)
      = z (ix4 p q (QuantSpec.group k) (⟨k.val % 128, Nat.mod_lt _ (by decide)⟩ : Fin 128)) := by
  refine shapeCast_apply _ _ (ix2 R k) (ix4 p q (QuantSpec.group k) (⟨k.val % 128, Nat.mod_lt _ (by decide)⟩ : Fin 128)) ?_
  rw [Shape.rowMajor_val_two, Shape.rowMajor_val_four]
  show ((p.val * 1024 + q.val) * 40 + k.val / 128) * 128 + k.val % 128 = R.val * 5120 + k.val
  omega

/-- The groups' scales laid out as rows. -/
theorem flat_scales (z : FVec Ideal S8x1024x40 .f32) (p : Fin 8) (q : Fin 1024) (R : Fin 8192) (hR : R.val = p.val * 1024 + q.val) (g : Fin 40) :
    shapeCast S8192x40 z shapeCasts_S8x1024x40_S8192x40 (ix2 R g) = z (ix3 p q g) := by
  refine shapeCast_apply _ _ (ix2 R g) (ix3 p q g) ?_
  rw [Shape.rowMajor_val_two, Shape.rowMajor_val_three]
  show (p.val * 1024 + q.val) * 40 + g.val = R.val * 40 + g.val
  omega

section Row
variable (a0 : Vec Ideal S8x1024x5120 .bf16) (a1 a2 : Vec Ideal S8x5120 .bf16) (p : Fin 8) (q : Fin 1024)

/-- A row of the argument. -/
def xr : Fin 5120 → EReal := fun k => a0 (ix3 p q k)

/-- A place of a row less its mean. -/
theorem centred_apply (k : Fin 5120) :
    centred (extf (F := Ideal) .f32 a0 bitsLt_bf16_f32) (ix3 p q k) = xr a0 p q k - QuantSpec.mean (xr a0 p q) :=
  congrArg (fun z : EReal => xr a0 p q k - z) ((spread_col _ p q k).trans (avg_apply _ p q))

/-- A row's inverse deviation. -/
theorem rstd_apply : rstd (extf (F := Ideal) .f32 a0 bitsLt_bf16_f32) (ix3 p q (0 : Fin 1)) = QuantSpec.rstd (xr a0 p q) := by
  unfold rstd QuantSpec.rstd
  refine congrArg (fun z : EReal => Ideal.rsqrt (z + Ideal.ofBits .f32 0x358637BD#32)) ?_
  refine (avg_apply _ p q).trans (congrArg (fun z : EReal => z * QuantSpec.invD) ?_)
  exact Finset.sum_congr rfl fun k _ => congrArg₂ (fun y z : EReal => y * z) (centred_apply a0 p q k) (centred_apply a0 p q k)

/-- The modulated row of the reference. -/
def act : Fin 5120 → EReal := QuantSpec.act (xr a0 p q) (fun k => a2 (ix2 p k)) (fun k => a1 (ix2 p k))

/-- THE MODULATED ROWS: the reference's groups are the places of the modulated row. -/
theorem act_apply (g : Fin 40) (j : Fin 128) : k0_pay4 (F := Ideal) a0 a2 a1 (ix4 p q g j) = act a0 a1 a2 p q (QuantSpec.place g j) := by
  unfold k0_pay4
  refine (shapeCast_apply _ _ (ix4 p q g j) (ix3 p q (QuantSpec.place g j)) ?_).trans ?_
  · rw [Shape.rowMajor_val_three, Shape.rowMajor_val_four]
    show (p.val * 1024 + q.val) * 5120 + (128 * g.val + j.val) = ((p.val * 1024 + q.val) * 40 + g.val) * 128 + j.val
    omega
  refine congrArg₂ (fun y z : EReal => y + z) (congrArg₂ (fun y z : EReal => y * z) (congrArg₂ (fun y z : EReal => y * z) (centred_apply a0 p q _)
    ((spread_col _ p q _).trans (rstd_apply a0 p q))) ((spread_row _ p q _).trans (congrArg (fun z : EReal => Ideal.ofBits .f32 0x3F800000#32 + z) (unit_row _ p _))))
    ((spread_row _ p q _).trans (unit_row _ p _))

/-- The amount of a group. -/
theorem amax_act (g : Fin 40) : amax (k0_pay4 (F := Ideal) a0 a2 a1) (ix3 p q g) = QuantSpec.amax (act a0 a1 a2 p q) g := by
  refine (amax_apply _ p q g).trans ?_
  exact congrArg (fun f => QuantSpec.top f * Ideal.ofBits .f32 0x3B124925#32) (funext fun l => act_apply a0 a1 a2 p q g l)

/-- The payload of the codes. -/
theorem pay2_eq : k0_pay2 (F := Ideal) (k0_pay4 a0 a2 a1) (k0_pay6 a0 a2 a1) (k0_pay7 a0 a2 a1) k0_pay8
    = shapeCast S8192x5120 (clip (k0_pay4 (F := Ideal) a0 a2 a1) (expo (top (k0_pay4 (F := Ideal) a0 a2 a1)) (amax (k0_pay4 (F := Ideal) a0 a2 a1)))) shapeCasts_S8x1024x40x128_S8192x5120 := by
  sl_kernel_rfl

/-- The payload of the scales. -/
theorem pay3_eq : k0_pay3 (F := Ideal) (k0_pay6 a0 a2 a1) (k0_pay7 a0 a2 a1) k0_pay8
    = shapeCast S8192x40 (exp2 (F := Ideal) (expo (top (k0_pay4 (F := Ideal) a0 a2 a1)) (amax (k0_pay4 (F := Ideal) a0 a2 a1)))) shapeCasts_S8x1024x40_S8192x40 := by
  sl_kernel_rfl

/-- THE REFERENCE'S CODES at row `q` of batch `p`. -/
theorem code_apply (R : Fin 8192) (hR : R.val = p.val * 1024 + q.val) (k : Fin 5120) :
    k0_pay2 (F := Ideal) (k0_pay4 a0 a2 a1) (k0_pay6 a0 a2 a1) (k0_pay7 a0 a2 a1) k0_pay8 (ix2 R k) = QuantSpec.code (act a0 a1 a2 p q) k := by
  rw [pay2_eq, flat_codes _ p q R hR, clip_apply, expo_apply, amax_act, act_apply, QuantSpec.place_group]
  unfold QuantSpec.code
  rfl

/-- THE REFERENCE'S SCALES at row `q` of batch `p`. -/
theorem scale_apply (R : Fin 8192) (hR : R.val = p.val * 1024 + q.val) (g : Fin 40) :
    k0_pay3 (F := Ideal) (k0_pay6 a0 a2 a1) (k0_pay7 a0 a2 a1) k0_pay8 (ix2 R g) = QuantSpec.scale (act a0 a1 a2 p q) g := by
  rw [pay3_eq, flat_scales _ p q R hR]
  unfold QuantSpec.scale
  rw [exp2_at, expo_apply, amax_act]

end Row

end Cert.Proof.QuantReference
end
-- ==== Proof.QuantAgree.lean ====
module
public import proofs.«01_k».proof.Proof.QuantResult
public import proofs.«01_k».proof.Proof.QuantReference
@[expose] public section
noncomputable section
namespace Cert.Proof.QuantAgree
open Idealize.ShloMosaic Idealize.ShloMosaic.TcCoe Idealize.SL.Sem Idealize.ShloMosaic.ValueIdx

section Reference
open Cert.QuantiseIdeal Cert.QuantiseIdeal.Gen
variable (a0 : Vec Ideal S8x1024x5120 .bf16) (a1 a2 : Vec Ideal S8x5120 .bf16)

/-- The reference's payloads, of its arguments loaded whole, are those of the arguments. -/
theorem pays : k0_pay9 (F := Ideal) a0 a1 a2 = k0_pay6 a0 a2 a1 ∧ k0_pay10 (F := Ideal) a0 a1 a2 = k0_pay7 a0 a2 a1
    ∧ k0_pay11 (F := Ideal) a0 a1 a2 = k0_pay8 := by
  unfold k0_pay9 k0_pay10 k0_pay11
  rw [View.ld_unit_zero (S := S8x1024x5120) Value.hz0 _ a0, View.ld_unit_zero (S := S8x5120) Value.hz2 _ a2, View.ld_unit_zero (S := S8x5120) Value.hz1 _ a1]
  exact ⟨rfl, rfl, rfl⟩

/-- THE REFERENCE'S CODES: the code of place `k` of the modulated row `R`. -/
theorem reference_codes (R : Fin 8192) (k : Fin 5120) :
    Value.G3 (F := Ideal) a0 a1 a2 (ix2 R k) = QuantSpec.code (QuantSpec.row a0 a1 a2 R) k := by
  obtain ⟨h9, h10, h11⟩ := pays a0 a1 a2
  unfold Value.G3
  rw [h9, h10, h11]
  exact QuantReference.code_apply a0 a1 a2 (QuantSpec.batch R) (QuantSpec.within R) R
    (show R.val = R.val / 1024 * 1024 + R.val % 1024 by omega) k

/-- THE REFERENCE'S SCALES: the scale of group `g` of the modulated row `R`. -/
theorem reference_scales (R : Fin 8192) (g : Fin 40) :
    Value.G4 (F := Ideal) a0 a1 a2 (ix2 R g) = QuantSpec.scale (QuantSpec.row a0 a1 a2 R) g := by
  obtain ⟨h9, h10, h11⟩ := pays a0 a1 a2
  unfold Value.G4
  rw [h9, h10, h11]
  exact QuantReference.scale_apply a0 a1 a2 (QuantSpec.batch R) (QuantSpec.within R) R
    (show R.val = R.val / 1024 * 1024 + R.val % 1024 by omega) g

end Reference

section Agree
open Cert.QuantIdeal Cert.QuantIdeal.Gen
variable (m : (ℓ : Loc nD τ sig) → Buf (Elt Ideal) ℓ) (c : Dev nD)
  (a0 : Vec Ideal Cert.QuantiseIdeal.S8x1024x5120 .bf16) (a1 a2 : Vec Ideal Cert.QuantiseIdeal.S8x5120 .bf16)
  (h0 : a0 = m ((c.tc : Thread nD τ).loc main_arg0)) (h1 : a1 = m ((c.tc : Thread nD τ).loc main_arg1))
  (h2 : a2 = m ((c.tc : Thread nD τ).loc main_arg2))
include h0 h1 h2

/-- THE CODES AGREE: of equal arguments, the reference's array of codes is the kernel's. -/
theorem codes : Cert.QuantiseIdeal.Value.G3 (F := Ideal) a0 a1 a2 = (dats m 0 c).arrAt 3 cfg0.N := by
  funext i
  obtain ⟨R, k, rfl⟩ : ∃ (R : Fin 8192) (k : Fin 5120), i = ix2 R k := ⟨i 0, i 1, eq_ix2 i⟩
  refine (reference_codes a0 a1 a2 R k).trans (Eq.trans ?_ (QuantResult.codes m c R k).symm)
  rw [h0, h1, h2]

/-- THE SCALES AGREE: of equal arguments, the reference's array of scales is the kernel's. -/
theorem scales : Cert.QuantiseIdeal.Value.G4 (F := Ideal) a0 a1 a2 = (dats m 0 c).arrAt 4 cfg0.N := by
  funext i
  obtain ⟨R, g, rfl⟩ : ∃ (R : Fin 8192) (g : Fin 40), i = ix2 R g := ⟨i 0, i 1, eq_ix2 i⟩
  refine (reference_scales a0 a1 a2 R g).trans (Eq.trans ?_ (QuantResult.scales m c R g).symm)
  rw [h0, h1, h2]

end Agree

end Cert.Proof.QuantAgree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantIdeal.Value
public import proofs.«01_k».proof.Proof.Gen.QuantiseIdeal
public import proofs.«01_k».proof.Proof.Gen.QuantiseIdeal.Skeleton
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.QuantiseIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Result
public import proofs.«01_k».proof.Proof.Reference
public import proofs.«01_k».proof.Proof.QuantAgree
public import Idealize.ShloMosaic.Adequacy
public import Idealize.ShloMosaic.Init

@[expose] public section

noncomputable section

namespace Cert.Proof

open Idealize.ShloMosaic Idealize.ShloMosaic.ValueIdx Idealize.SL.Sem

/-- THE TWO RESULTS AGREE: the kernel's result array and the reference's, of equal arguments, hold equal elements — both
    are the value `Spec` states. -/
theorem results (m : (ℓ : Loc Cert.KernelIdeal.nD Cert.KernelIdeal.τ Cert.KernelIdeal.sig) → Buf (Elt Ideal) ℓ)
    (c : Dev Cert.KernelIdeal.nD)
    (a0 : Vec Ideal Cert.ReferenceIdeal.S8192x5120 .fp8e4m3) (a1 : Vec Ideal Cert.ReferenceIdeal.S8192x40 .f32)
    (a2 : Vec Ideal Cert.ReferenceIdeal.S5120x7168 .fp8e4m3) (a3 : Vec Ideal Cert.ReferenceIdeal.S40x56 .f32)
    (a4 : Vec Ideal Cert.ReferenceIdeal.S7168 .bf16) (a5 : Vec Ideal Cert.ReferenceIdeal.S8x7168 .bf16)
    (h0 : a0 = m ((c.tc : Thread Cert.KernelIdeal.nD Cert.KernelIdeal.τ).loc Cert.KernelIdeal.main_arg0))
    (h1 : a1 = m ((c.tc : Thread Cert.KernelIdeal.nD Cert.KernelIdeal.τ).loc Cert.KernelIdeal.main_arg1))
    (h2 : a2 = m ((c.tc : Thread Cert.KernelIdeal.nD Cert.KernelIdeal.τ).loc Cert.KernelIdeal.main_arg2))
    (h3 : a3 = m ((c.tc : Thread Cert.KernelIdeal.nD Cert.KernelIdeal.τ).loc Cert.KernelIdeal.main_arg3))
    (h4 : a4 = m ((c.tc : Thread Cert.KernelIdeal.nD Cert.KernelIdeal.τ).loc Cert.KernelIdeal.main_arg4))
    (h5 : a5 = m ((c.tc : Thread Cert.KernelIdeal.nD Cert.KernelIdeal.τ).loc Cert.KernelIdeal.main_arg5)) :
    Cert.ReferenceIdeal.Value.G6 (F := Ideal) a0 a1 a2 a3 a4 a5 = Cert.KernelIdeal.Value.G6 (F := Ideal) m c := by
  funext i
  rw [eq_ix2 i]
  refine (Reference.value a0 a1 a2 a3 a4 a5 (i 0) (i 1)).trans ?_
  refine Eq.trans ?_ (Result.value m c (i 0) (i 1)).symm
  rw [h0, h1, h2, h3, h4, h5]

/-- THE CLAIM: the six frames, each kernel's own copy preserved, and each kernel's results equal to its reference's over
    the extended reals. -/
theorem claim : Cert.Claim := ⟨Cert.Kernel.Gen.facts, Cert.KernelIdeal.Gen.facts, Cert.ReferenceIdeal.Gen.facts,
  Cert.Quant.Gen.facts, Cert.QuantIdeal.Gen.facts, Cert.QuantiseIdeal.Gen.facts,
  fun m ρ _ => Cert.Kernel.Gen.frame m ρ,
  fun m ρ _ => Cert.KernelIdeal.Gen.frame m ρ,
  fun m ρ _ => Cert.ReferenceIdeal.Gen.frame m ρ,
  fun m ρ _ => Cert.Quant.Gen.frame m ρ,
  fun m ρ _ => Cert.QuantIdeal.Gen.frame m ρ,
  fun m ρ _ => Cert.QuantiseIdeal.Gen.frame m ρ,
  trivial,
  fun m ρ m' ρ' _ h => ⟨fun c => Cert.KernelIdeal.Value.G6 m c, Cert.KernelIdeal.Value.run m ρ,
    (θ_run Cert.ReferenceIdeal.defs _ _).mono (fun r hr c => by
      obtain ⟨e, k⟩ := hr c
      obtain ⟨h0, h1, h2, h3, h4, h5⟩ := h c
      exact ⟨e.trans (results m c _ _ _ _ _ _ h0 h1 h2 h3 h4 h5), k⟩) (Cert.ReferenceIdeal.Value.run m' ρ')⟩,
  ⟨IdealRules.named_const.statement Cert.QuantIdeal.κ "inv_d" .f32 0x394CCCCD#32 ((1 / 5120 : ℝ) : EReal) rfl,
    IdealRules.named_const.statement Cert.QuantIdeal.κ "inv_ln2" .f32 0x3FB8AA3B#32 (((Real.log 2)⁻¹ : ℝ) : EReal) rfl⟩,
  fun m ρ m' ρ' _ h => ⟨fun c => (Cert.QuantIdeal.Gen.dats m 0 c).arrAt 3 Cert.QuantIdeal.cfg0.N,
    fun c => (Cert.QuantIdeal.Gen.dats m 0 c).arrAt 4 Cert.QuantIdeal.cfg0.N, Cert.QuantIdeal.Value.run_blocks m ρ,
    (θ_run Cert.QuantiseIdeal.defs _ _).mono (fun r hr c => by
      obtain ⟨e3, e4, k⟩ := hr c
      obtain ⟨h0, h1, h2⟩ := h c
      exact ⟨e3.trans (QuantAgree.codes m c _ _ _ h0 h1 h2), e4.trans (QuantAgree.scales m c _ _ _ h0 h1 h2), k⟩)
      (Cert.QuantiseIdeal.Value.run m' ρ')⟩⟩

end Cert.Proof

end
